-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_ids_in_table [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_the_prediction_pre_ids_in_table [hKernelIdeal : Cert.KernelIdeal.Facts] [hReferenceIdeal : Cert.ReferenceIdeal.Facts] [hPre_ids_in_table : Cert.Pre_ids_in_table.Facts] [hOn_the_prediction : Cert.On_the_prediction.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 5]⟩ : Shape).Idx, (Cert.On_the_prediction.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.KernelIdeal.nD Cert.KernelIdeal.τ).loc Cert.KernelIdeal.main_v0_0) i = v0 c i)
          ∧ (∀ i : (⟨0, ![]⟩ : Shape).Idx, (Cert.On_the_prediction.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 5]⟩ : Shape).Idx, (Cert.On_the_prediction.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.ReferenceIdeal.nD Cert.ReferenceIdeal.τ).loc Cert.ReferenceIdeal.main_v25) i = v0 c i)
          ∧ (∀ i : (⟨0, ![]⟩ : Shape).Idx, (Cert.On_the_prediction.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2 i = 1#1 → r.2.mem ((c.tc : Thread Cert.ReferenceIdeal.nD Cert.ReferenceIdeal.τ).loc Cert.ReferenceIdeal.main_v32) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_ids_in_table : Cert.Pre_ids_in_table.Facts) (hPre_in_range_and_finite : Cert.Pre_in_range_and_finite.Facts) (hOn_the_prediction : Cert.On_the_prediction.Facts),
    quiescent_Kernel (hKernel := hKernel)
    ∧ quiescent_KernelIdeal (hKernelIdeal := hKernelIdeal)
    ∧ quiescent_KernelIdeal_pre_ids_in_table (hKernelIdeal := hKernelIdeal) (hPre_ids_in_table := hPre_ids_in_table)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_ids_in_table (hReferenceIdeal := hReferenceIdeal) (hPre_ids_in_table := hPre_ids_in_table)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_on_the_prediction_pre_ids_in_table (hKernelIdeal := hKernelIdeal) (hReferenceIdeal := hReferenceIdeal) (hPre_ids_in_table := hPre_ids_in_table) (hOn_the_prediction := hOn_the_prediction)
    ∧ algebraic_KernelIdeal_ReferenceIdeal_pre_in_range_and_finite (hKernelIdeal := hKernelIdeal) (hReferenceIdeal := hReferenceIdeal) (hPre_in_range_and_finite := hPre_in_range_and_finite)
-- ==== On_the_prediction.lean ====
abbrev S101x2048 : Shape := ⟨2, ![101, 2048]⟩
abbrev S6144x2048 : Shape := ⟨2, ![6144, 2048]⟩
abbrev S2048 : Shape := ⟨1, ![2048]⟩
abbrev S2048x2048 : Shape := ⟨2, ![2048, 2048]⟩
abbrev S2048x5 : Shape := ⟨2, ![2048, 5]⟩
abbrev S5 : Shape := ⟨1, ![5]⟩
abbrev S4096x3 : Shape := ⟨2, ![4096, 3]⟩
abbrev S4096 : Shape := ⟨1, ![4096]⟩
abbrev S4096x5 : Shape := ⟨2, ![4096, 5]⟩
abbrev S_ : Shape := ⟨0, ![]⟩
abbrev S1 : Shape := ⟨1, ![1]⟩

class Facts : Prop where
  bcast_S_S4096x5 : S_.BroadcastsInDim S4096x5 (![] : Fin 0 → Fin S4096x5.rank)
  slices_S4096_S1_0 : S4096.Slices ![0] S1
  shapeCasts_S1_S_ : S1.ShapeCasts S_

variable [Facts]

def fn {F : FTy → Type} [FloatOps F] (main_arg0 : FVec F S101x2048 .f32) (main_arg1 : FVec F S6144x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x5 .f32) (main_arg10 : FVec F S5 .f32) (main_arg11 : IVec S4096x3 32) (main_arg12 : IVec S4096 32) : IVec S4096x5 1 × IVec S_ 1 :=
  let main_v0 : IVec S4096x5 32 := iotaInDim S4096x5 32 0
  let main_c : IVec S_ 32 := constantI S_ 32 0#32
  let main_v1 : IVec S4096x5 32 := broadcastInDim S4096x5 ![] bcast_S_S4096x5 main_c
  let main_v2 : IVec S4096x5 1 := cmpi .sge main_v0 main_v1
  let main_v3 : IVec S1 32 := (extractStridedSlice S1 ![0] · slices_S4096_S1_0) main_arg12
  let main_v4 : IVec S_ 32 := shapeCast S_ main_v3 shapeCasts_S1_S_
  let main_v5 : IVec S1 32 := (extractStridedSlice S1 ![0] · slices_S4096_S1_0) main_arg12
  let main_v6 : IVec S_ 32 := shapeCast S_ main_v5 shapeCasts_S1_S_
  let main_v7 : IVec S_ 1 := cmpi .ne main_v4 main_v6
  (main_v2, main_v7)
-- ==== Pre_ids_in_table.lean ====
abbrev S101x2048 : Shape := ⟨2, ![101, 2048]⟩
abbrev S6144x2048 : Shape := ⟨2, ![6144, 2048]⟩
abbrev S2048 : Shape := ⟨1, ![2048]⟩
abbrev S2048x2048 : Shape := ⟨2, ![2048, 2048]⟩
abbrev S2048x5 : Shape := ⟨2, ![2048, 5]⟩
abbrev S5 : Shape := ⟨1, ![5]⟩
abbrev S4096x3 : Shape := ⟨2, ![4096, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)

variable [Facts]

def fn {F : FTy → Type} [FloatOps F] (main_arg0 : FVec F S101x2048 .f32) (main_arg1 : FVec F S6144x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x5 .f32) (main_arg10 : FVec F S5 .f32) (main_arg11 : IVec S4096x3 32) (main_arg12 : IVec S4096 32) : IVec S4096x3 1 :=
  let main_c : IVec S_ 32 := constantI S_ 32 0#32
  let main_v0 : IVec S4096x3 32 := broadcastInDim S4096x3 ![] bcast_S_S4096x3 main_c
  let main_v1 : IVec S4096x3 1 := cmpi .sge main_arg11 main_v0
  let main_c_0 : IVec S_ 32 := constantI S_ 32 101#32
  let main_v2 : IVec S4096x3 32 := broadcastInDim S4096x3 ![] bcast_S_S4096x3 main_c_0
  let main_v3 : IVec S4096x3 1 := cmpi .slt main_arg11 main_v2
  let main_v4 : IVec S4096x3 1 := andi main_v1 main_v3
  main_v4
-- ==== Pre_in_range_and_finite.lean ====
abbrev S101x2048 : Shape := ⟨2, ![101, 2048]⟩
abbrev S6144x2048 : Shape := ⟨2, ![6144, 2048]⟩
abbrev S2048 : Shape := ⟨1, ![2048]⟩
abbrev S2048x2048 : Shape := ⟨2, ![2048, 2048]⟩
abbrev S2048x5 : Shape := ⟨2, ![2048, 5]⟩
abbrev S5 : Shape := ⟨1, ![5]⟩
abbrev S4096x3 : Shape := ⟨2, ![4096, 3]⟩
abbrev S4096 : Shape := ⟨1, ![4096]⟩
abbrev S_ : Shape := ⟨0, ![]⟩

class Facts : Prop where
  bcast_S_S4096x3 : S_.BroadcastsInDim S4096x3 (![] : Fin 0 → Fin S4096x3.rank)
  bcast_S_S4096 : S_.BroadcastsInDim S4096 (![] : Fin 0 → Fin S4096.rank)
  bcast_S_S101x2048 : S_.BroadcastsInDim S101x2048 (![] : Fin 0 → Fin S101x2048.rank)
  bcast_S_S6144x2048 : S_.BroadcastsInDim S6144x2048 (![] : Fin 0 → Fin S6144x2048.rank)
  bcast_S_S2048 : S_.BroadcastsInDim S2048 (![] : Fin 0 → Fin S2048.rank)
  bcast_S_S2048x2048 : S_.BroadcastsInDim S2048x2048 (![] : Fin 0 → Fin S2048x2048.rank)
  bcast_S_S2048x5 : S_.BroadcastsInDim S2048x5 (![] : Fin 0 → Fin S2048x5.rank)
  bcast_S_S5 : S_.BroadcastsInDim S5 (![] : Fin 0 → Fin S5.rank)

variable [Facts]

def fn_part2 {F : FTy → Type} [FloatOps F] (main_arg9 : FVec F S2048x5 .f32) (main_arg10 : FVec F S5 .f32) (main_v4 : IVec S4096x3 1) (main_v9 : IVec S4096 1) (main_v12 : IVec S101x2048 1) (main_v15 : IVec S6144x2048 1) (main_v18 : IVec S2048 1) (main_v21 : IVec S2048x2048 1) (main_v24 : IVec S2048 1) (main_v27 : IVec S2048x2048 1) (main_v30 : IVec S2048 1) (main_v33 : IVec S2048x2048 1) (main_v34 : FVec F S2048 .f32) (main_cst_10 : FVec F S_ .f32) : IVec S4096x3 1 × IVec S4096 1 × IVec S101x2048 1 × IVec S6144x2048 1 × IVec S2048 1 × IVec S2048x2048 1 × IVec S2048 1 × IVec S2048x2048 1 × IVec S2048 1 × IVec S2048x2048 1 × IVec S2048 1 × IVec S2048x5 1 × IVec S5 1 :=
  let main_v35 : FVec F S2048 .f32 := broadcastInDim S2048 ![] bcast_S_S2048 main_cst_10
  let main_v36 : IVec S2048 1 := cmpf .olt main_v34 main_v35
  let main_v37 : FVec F S2048x5 .f32 := Host.absf main_arg9
  let main_cst_11 : FVec F S_ .f32 := constant S_ .f32 0x7F800000#32
  let main_v38 : FVec F S2048x5 .f32 := broadcastInDim S2048x5 ![] bcast_S_S2048x5 main_cst_11
  let main_v39 : IVec S2048x5 1 := cmpf .olt main_v37 main_v38
  let main_v40 : FVec F S5 .f32 := Host.absf main_arg10
  let main_cst_12 : FVec F S_ .f32 := constant S_ .f32 0x7F800000#32
  let main_v41 : FVec F S5 .f32 := broadcastInDim S5 ![] bcast_S_S5 main_cst_12
  let main_v42 : IVec S5 1 := cmpf .olt main_v40 main_v41
  (main_v4, main_v9, main_v12, main_v15, main_v18, main_v21, main_v24, main_v27, main_v30, main_v33, main_v36, main_v39, main_v42)

def fn_part1 {F : FTy → Type} [FloatOps F] (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x5 .f32) (main_arg10 : FVec F S5 .f32) (main_v4 : IVec S4096x3 1) (main_v9 : IVec S4096 1) (main_v12 : IVec S101x2048 1) (main_v15 : IVec S6144x2048 1) (main_v16 : FVec F S2048 .f32) (main_cst_4 : FVec F S_ .f32) : IVec S4096x3 1 × IVec S4096 1 × IVec S101x2048 1 × IVec S6144x2048 1 × IVec S2048 1 × IVec S2048x2048 1 × IVec S2048 1 × IVec S2048x2048 1 × IVec S2048 1 × IVec S2048x2048 1 × IVec S2048 1 × IVec S2048x5 1 × IVec S5 1 :=
  let main_v17 : FVec F S2048 .f32 := broadcastInDim S2048 ![] bcast_S_S2048 main_cst_4
  let main_v18 : IVec S2048 1 := cmpf .olt main_v16 main_v17
  let main_v19 : FVec F S2048x2048 .f32 := Host.absf main_arg3
  let main_cst_5 : FVec F S_ .f32 := constant S_ .f32 0x7F800000#32
  let main_v20 : FVec F S2048x2048 .f32 := broadcastInDim S2048x2048 ![] bcast_S_S2048x2048 main_cst_5
  let main_v21 : IVec S2048x2048 1 := cmpf .olt main_v19 main_v20
  let main_v22 : FVec F S2048 .f32 := Host.absf main_arg4
  let main_cst_6 : FVec F S_ .f32 := constant S_ .f32 0x7F800000#32
  let main_v23 : FVec F S2048 .f32 := broadcastInDim S2048 ![] bcast_S_S2048 main_cst_6
  let main_v24 : IVec S2048 1 := cmpf .olt main_v22 main_v23
  let main_v25 : FVec F S2048x2048 .f32 := Host.absf main_arg5
  let main_cst_7 : FVec F S_ .f32 := constant S_ .f32 0x7F800000#32
  let main_v26 : FVec F S2048x2048 .f32 := broadcastInDim S2048x2048 ![] bcast_S_S2048x2048 main_cst_7
  let main_v27 : IVec S2048x2048 1 := cmpf .olt main_v25 main_v26
  let main_v28 : FVec F S2048 .f32 := Host.absf main_arg6
  let main_cst_8 : FVec F S_ .f32 := constant S_ .f32 0x7F800000#32
  let main_v29 : FVec F S2048 .f32 := broadcastInDim S2048 ![] bcast_S_S2048 main_cst_8
  let main_v30 : IVec S2048 1 := cmpf .olt main_v28 main_v29
  let main_v31 : FVec F S2048x2048 .f32 := Host.absf main_arg7
  let main_cst_9 : FVec F S_ .f32 := constant S_ .f32 0x7F800000#32
  let main_v32 : FVec F S2048x2048 .f32 := broadcastInDim S2048x2048 ![] bcast_S_S2048x2048 main_cst_9
  let main_v33 : IVec S2048x2048 1 := cmpf .olt main_v31 main_v32
  let main_v34 : FVec F S2048 .f32 := Host.absf main_arg8
  let main_cst_10 : FVec F S_ .f32 := constant S_ .f32 0x7F800000#32
  fn_part2 (F := F) main_arg9 main_arg10 main_v4 main_v9 main_v12 main_v15 main_v18 main_v21 main_v24 main_v27 main_v30 main_v33 main_v34 main_cst_10

def fn {F : FTy → Type} [FloatOps F] (main_arg0 : FVec F S101x2048 .f32) (main_arg1 : FVec F S6144x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x5 .f32) (main_arg10 : FVec F S5 .f32) (main_arg11 : IVec S4096x3 32) (main_arg12 : IVec S4096 32) : IVec S4096x3 1 × IVec S4096 1 × IVec S101x2048 1 × IVec S6144x2048 1 × IVec S2048 1 × IVec S2048x2048 1 × IVec S2048 1 × IVec S2048x2048 1 × IVec S2048 1 × IVec S2048x2048 1 × IVec S2048 1 × IVec S2048x5 1 × IVec S5 1 :=
  let main_c : IVec S_ 32 := constantI S_ 32 0#32
  let main_v0 : IVec S4096x3 32 := broadcastInDim S4096x3 ![] bcast_S_S4096x3 main_c
  let main_v1 : IVec S4096x3 1 := cmpi .sge main_arg11 main_v0
  let main_c_0 : IVec S_ 32 := constantI S_ 32 101#32
  let main_v2 : IVec S4096x3 32 := broadcastInDim S4096x3 ![] bcast_S_S4096x3 main_c_0
  let main_v3 : IVec S4096x3 1 := cmpi .slt main_arg11 main_v2
  let main_v4 : IVec S4096x3 1 := andi main_v1 main_v3
  let main_c_1 : IVec S_ 32 := constantI S_ 32 0#32
  let main_v5 : IVec S4096 32 := broadcastInDim S4096 ![] bcast_S_S4096 main_c_1
  let main_v6 : IVec S4096 1 := cmpi .sge main_arg12 main_v5
  let main_c_2 : IVec S_ 32 := constantI S_ 32 5#32
  let main_v7 : IVec S4096 32 := broadcastInDim S4096 ![] bcast_S_S4096 main_c_2
  let main_v8 : IVec S4096 1 := cmpi .slt main_arg12 main_v7
  let main_v9 : IVec S4096 1 := andi main_v6 main_v8
  let main_v10 : FVec F S101x2048 .f32 := Host.absf main_arg0
  let main_cst : FVec F S_ .f32 := constant S_ .f32 0x7F800000#32
  let main_v11 : FVec F S101x2048 .f32 := broadcastInDim S101x2048 ![] bcast_S_S101x2048 main_cst
  let main_v12 : IVec S101x2048 1 := cmpf .olt main_v10 main_v11
  let main_v13 : FVec F S6144x2048 .f32 := Host.absf main_arg1
  let main_cst_3 : FVec F S_ .f32 := constant S_ .f32 0x7F800000#32
  let main_v14 : FVec F S6144x2048 .f32 := broadcastInDim S6144x2048 ![] bcast_S_S6144x2048 main_cst_3
  let main_v15 : IVec S6144x2048 1 := cmpf .olt main_v13 main_v14
  let main_v16 : FVec F S2048 .f32 := Host.absf main_arg2
  let main_cst_4 : FVec F S_ .f32 := constant S_ .f32 0x7F800000#32
  fn_part1 (F := F) main_arg3 main_arg4 main_arg5 main_arg6 main_arg7 main_arg8 main_arg9 main_arg10 main_v4 main_v9 main_v12 main_v15 main_v16 main_cst_4
-- ==== Kernel.lean ====
abbrev S101x2048 : Shape := ⟨2, ![101, 2048]⟩
abbrev S6144x2048 : Shape := ⟨2, ![6144, 2048]⟩
abbrev S2048 : Shape := ⟨1, ![2048]⟩
abbrev S2048x2048 : Shape := ⟨2, ![2048, 2048]⟩
abbrev S2048x5 : Shape := ⟨2, ![2048, 5]⟩
abbrev S5 : Shape := ⟨1, ![5]⟩
abbrev S4096x3 : Shape := ⟨2, ![4096, 3]⟩
abbrev S4096 : Shape := ⟨1, ![4096]⟩
abbrev S_ : Shape := ⟨0, ![]⟩
abbrev S128x2048 : Shape := ⟨2, ![128, 2048]⟩
abbrev S1 : Shape := ⟨1, ![1]⟩
abbrev S3x2048x2048 : Shape := ⟨3, ![3, 2048, 2048]⟩
abbrev S3x128x2048 : Shape := ⟨3, ![3, 128, 2048]⟩
abbrev S384x2048 : Shape := ⟨2, ![384, 2048]⟩
abbrev S2048x128 : Shape := ⟨2, ![2048, 128]⟩
abbrev S1x128 : Shape := ⟨2, ![1, 128]⟩
abbrev S2 : Shape := ⟨1, ![2]⟩
abbrev S4096x1 : Shape := ⟨2, ![4096, 1]⟩
abbrev S1x2048 : Shape := ⟨2, ![1, 2048]⟩
abbrev S4096x128 : Shape := ⟨2, ![4096, 128]⟩
abbrev S16x1x1 : Shape := ⟨3, ![16, 1, 1]⟩
abbrev S4096x5 : Shape := ⟨2, ![4096, 5]⟩
abbrev S1x2048x2048 : Shape := ⟨3, ![1, 2048, 2048]⟩
abbrev S1x128x2048 : Shape := ⟨3, ![1, 128, 2048]⟩
abbrev S256x3 : Shape := ⟨2, ![256, 3]⟩
abbrev S256x1 : Shape := ⟨2, ![256, 1]⟩
abbrev S256x128 : Shape := ⟨2, ![256, 128]⟩
abbrev S1x1x1 : Shape := ⟨3, ![1, 1, 1]⟩
abbrev S256x384 : Shape := ⟨2, ![256, 384]⟩
abbrev S256x2048 : Shape := ⟨2, ![256, 2048]⟩
abbrev S256 : Shape := ⟨1, ![256]⟩
abbrev S1x256x1 : Shape := ⟨3, ![1, 256, 1]⟩

abbrev nBuf : Space → Nat
  | .hbm => 45
  | .vmem => 23
  | .smem => 2
  | _ => 0

abbrev bufTy : (tb : Table) → Fin (tcTables nBuf tb) → BufTy
  | .hbm, ⟨0, _⟩ => ⟨S101x2048, .f32⟩
  | .hbm, ⟨1, _⟩ => ⟨S6144x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x5, .f32⟩
  | .hbm, ⟨10, _⟩ => ⟨S5, .f32⟩
  | .hbm, ⟨11, _⟩ => ⟨S4096x3, .i32⟩
  | .hbm, ⟨12, _⟩ => ⟨S4096, .i32⟩
  | .hbm, ⟨13, _⟩ => ⟨S_, .f32⟩
  | .hbm, ⟨14, _⟩ => ⟨S128x2048, .f32⟩
  | .hbm, ⟨15, _⟩ => ⟨S_, .i32⟩
  | .hbm, ⟨16, _⟩ => ⟨S1, .i32⟩
  | .hbm, ⟨17, _⟩ => ⟨S128x2048, .f32⟩
  | .hbm, ⟨18, _⟩ => ⟨S3x2048x2048, .f32⟩
  | .hbm, ⟨19, _⟩ => ⟨S3x128x2048, .f32⟩
  | .hbm, ⟨20, _⟩ => ⟨S384x2048, .f32⟩
  | .hbm, ⟨21, _⟩ => ⟨S_, .f32⟩
  | .hbm, ⟨22, _⟩ => ⟨S2048x128, .f32⟩
  | .hbm, ⟨23, _⟩ => ⟨S_, .i32⟩
  | .hbm, ⟨24, _⟩ => ⟨S1, .i32⟩
  | .hbm, ⟨25, _⟩ => ⟨S2048x128, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1x128, .f32⟩
  | .hbm, ⟨35, _⟩ => ⟨S4096x1, .i32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S4096x128, .f32⟩
  | .hbm, ⟨41, _⟩ => ⟨S16x1x1, .f32⟩
  | .hbm, ⟨42, _⟩ => ⟨S4096x5, .f32⟩
  | .hbm, ⟨43, _⟩ => ⟨S_, .f32⟩
  | .hbm, ⟨44, _⟩ => ⟨S_, .f32⟩
  | .local _ .vmem, ⟨0, _⟩ => ⟨S128x2048, .f32⟩
  | .local _ .vmem, ⟨1, _⟩ => ⟨S1x2048x2048, .f32⟩
  | .local _ .vmem, ⟨2, _⟩ => ⟨S1x2048x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128, .f32⟩
  | .local _ .vmem, ⟨6, _⟩ => ⟨S1x128, .f32⟩
  | .local _ .vmem, ⟨7, _⟩ => ⟨S256x3, .i32⟩
  | .local _ .vmem, ⟨8, _⟩ => ⟨S256x3, .i32⟩
  | .local _ .vmem, ⟨9, _⟩ => ⟨S256x1, .i32⟩
  | .local _ .vmem, ⟨10, _⟩ => ⟨S256x1, .i32⟩
  | .local _ .vmem, ⟨11, _⟩ => ⟨S384x2048, .f32⟩
  | .local _ .vmem, ⟨12, _⟩ => ⟨S1x2048, .f32⟩
  | .local _ .vmem, ⟨13, _⟩ => ⟨S2048x2048, .f32⟩
  | .local _ .vmem, ⟨14, _⟩ => ⟨S1x2048, .f32⟩
  | .local _ .vmem, ⟨15, _⟩ => ⟨S2048x2048, .f32⟩
  | .local _ .vmem, ⟨16, _⟩ => ⟨S1x2048, .f32⟩
  | .local _ .vmem, ⟨17, _⟩ => ⟨S2048x2048, .f32⟩
  | .local _ .vmem, ⟨18, _⟩ => ⟨S1x2048, .f32⟩
  | .local _ .vmem, ⟨19, _⟩ => ⟨S2048x128, .f32⟩
  | .local _ .vmem, ⟨20, _⟩ => ⟨S1x128, .f32⟩
  | .local _ .vmem, ⟨21, _⟩ => ⟨S256x128, .f32⟩
  | .local _ .vmem, ⟨22, _⟩ => ⟨S256x128, .f32⟩
  | .local _ .smem, ⟨0, _⟩ => ⟨S1x1x1, .f32⟩
  | .local _ .smem, ⟨1, _⟩ => ⟨S1x1x1, .f32⟩
  | _, _ => ⟨S101x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_cst_0 : Ref sig .tc := ⟨.hbm, 21, rfl⟩
abbrev main_call0_v6 : Ref sig .tc := ⟨.hbm, 22, rfl⟩
abbrev main_call0_c_1 : Ref sig .tc := ⟨.hbm, 23, rfl⟩
abbrev main_call0_v7 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_c_3 : Ref sig .tc := ⟨.hbm, 28, rfl⟩
abbrev main_call0_v10 : Ref sig .tc := ⟨.hbm, 29, rfl⟩
abbrev main_call0_c_4 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20_0 : Ref sig .tc := ⟨.hbm, 40, rfl⟩
abbrev main_call0_v20_1 : Ref sig .tc := ⟨.hbm, 41, rfl⟩
abbrev main_v0_0 : Ref sig .tc := ⟨.hbm, 42, rfl⟩
abbrev main_call0_cst_5 : Ref sig .tc := ⟨.hbm, 43, rfl⟩
abbrev main_v0_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg11_0 : Ref sig .tc := ⟨.vmem, 20, rfl⟩
abbrev cc2_stg12_0 : Ref sig .tc := ⟨.vmem, 21, rfl⟩
abbrev cc2_stg12_1 : Ref sig .tc := ⟨.vmem, 22, rfl⟩
abbrev cc2_stg13_0 : Ref sig .tc := ⟨.smem, 0, rfl⟩
abbrev cc2_stg13_1 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev cc2_sem8_0 : DmaSem sig := 17
abbrev cc2_sem9_0 : DmaSem sig := 18
abbrev cc2_sem10_0 : DmaSem sig := 19
abbrev cc2_sem11_0 : DmaSem sig := 20
abbrev cc2_sem12_0 : DmaSem sig := 21
abbrev cc2_sem12_1 : DmaSem sig := 22
abbrev cc2_sem13_0 : DmaSem sig := 23
abbrev cc2_sem13_1 : DmaSem sig := 24

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x3 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S384x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S2048x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x2048 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2048x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S256x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .smem S1x1x1 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S101x2048 : Shape := ⟨2, ![101, 2048]⟩
abbrev S6144x2048 : Shape := ⟨2, ![6144, 2048]⟩
abbrev S2048 : Shape := ⟨1, ![2048]⟩
abbrev S2048x2048 : Shape := ⟨2, ![2048, 2048]⟩
abbrev S2048x5 : Shape := ⟨2, ![2048, 5]⟩
abbrev S5 : Shape := ⟨1, ![5]⟩
abbrev S4096x3 : Shape := ⟨2, ![4096, 3]⟩
abbrev S4096 : Shape := ⟨1, ![4096]⟩
abbrev S_ : Shape := ⟨0, ![]⟩
abbrev S4096x3x1 : Shape := ⟨3, ![4096, 3, 1]⟩
abbrev S1 : Shape := ⟨1, ![1]⟩
abbrev S1x1x1 : Shape := ⟨3, ![1, 1, 1]⟩
abbrev S4096x3x2048 : Shape := ⟨3, ![4096, 3, 2048]⟩
abbrev S4096x6144 : Shape := ⟨2, ![4096, 6144]⟩
abbrev S4096x2048 : Shape := ⟨2, ![4096, 2048]⟩
abbrev S1x2048 : Shape := ⟨2, ![1, 2048]⟩
abbrev S4096x5 : Shape := ⟨2, ![4096, 5]⟩
abbrev S1x5 : Shape := ⟨2, ![1, 5]⟩
abbrev S4096x1 : Shape := ⟨2, ![4096, 1]⟩
abbrev S4096x1x1 : Shape := ⟨3, ![4096, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S101x2048, .f32⟩
  | .hbm, ⟨1, _⟩ => ⟨S6144x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x5, .f32⟩
  | .hbm, ⟨10, _⟩ => ⟨S5, .f32⟩
  | .hbm, ⟨11, _⟩ => ⟨S4096x3, .i32⟩
  | .hbm, ⟨12, _⟩ => ⟨S4096, .i32⟩
  | .hbm, ⟨13, _⟩ => ⟨S_, .i32⟩
  | .hbm, ⟨14, _⟩ => ⟨S4096x3, .i32⟩
  | .hbm, ⟨15, _⟩ => ⟨S4096x3, .i1⟩
  | .hbm, ⟨16, _⟩ => ⟨S_, .i32⟩
  | .hbm, ⟨17, _⟩ => ⟨S4096x3, .i32⟩
  | .hbm, ⟨18, _⟩ => ⟨S4096x3, .i32⟩
  | .hbm, ⟨19, _⟩ => ⟨S4096x3, .i32⟩
  | .hbm, ⟨20, _⟩ => ⟨S4096x3x1, .i32⟩
  | .hbm, ⟨21, _⟩ => ⟨S1, .i32⟩
  | .hbm, ⟨22, _⟩ => ⟨S_, .i32⟩
  | .hbm, ⟨23, _⟩ => ⟨S4096x3x1, .i32⟩
  | .hbm, ⟨24, _⟩ => ⟨S4096x3x1, .i1⟩
  | .hbm, ⟨25, _⟩ => ⟨S1x1x1, .i32⟩
  | .hbm, ⟨26, _⟩ => ⟨S4096x3x1, .i32⟩
  | .hbm, ⟨27, _⟩ => ⟨S4096x3x1, .i1⟩
  | .hbm, ⟨28, _⟩ => ⟨S4096x3x1, .i1⟩
  | .hbm, ⟨29, _⟩ => ⟨S_, .i1⟩
  | .hbm, ⟨30, _⟩ => ⟨S4096x3, .i1⟩
  | .hbm, ⟨31, _⟩ => ⟨S4096x3x2048, .f32⟩
  | .hbm, ⟨32, _⟩ => ⟨S4096x3x2048, .i1⟩
  | .hbm, ⟨33, _⟩ => ⟨S_, .f32⟩
  | .hbm, ⟨34, _⟩ => ⟨S4096x3x2048, .f32⟩
  | .hbm, ⟨35, _⟩ => ⟨S4096x3x2048, .f32⟩
  | .hbm, ⟨36, _⟩ => ⟨S4096x6144, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x5, .f32⟩
  | .hbm, ⟨66, _⟩ => ⟨S1x5, .f32⟩
  | .hbm, ⟨67, _⟩ => ⟨S4096x5, .f32⟩
  | .hbm, ⟨68, _⟩ => ⟨S4096x5, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096x1, .f32⟩
  | .hbm, ⟨75, _⟩ => ⟨S4096x5, .f32⟩
  | .hbm, ⟨76, _⟩ => ⟨S4096x5, .f32⟩
  | .hbm, ⟨77, _⟩ => ⟨S4096x5, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1, .f32⟩
  | .hbm, ⟨82, _⟩ => ⟨S4096x5, .f32⟩
  | .hbm, ⟨83, _⟩ => ⟨S4096x5, .f32⟩
  | .hbm, ⟨84, _⟩ => ⟨S4096x1, .i32⟩
  | .hbm, ⟨85, _⟩ => ⟨S_, .i32⟩
  | .hbm, ⟨86, _⟩ => ⟨S4096x1, .i32⟩
  | .hbm, ⟨87, _⟩ => ⟨S4096x1, .i1⟩
  | .hbm, ⟨88, _⟩ => ⟨S_, .i32⟩
  | .hbm, ⟨89, _⟩ => ⟨S4096x1, .i32⟩
  | .hbm, ⟨90, _⟩ => ⟨S4096x1, .i32⟩
  | .hbm, ⟨91, _⟩ => ⟨S4096x1, .i32⟩
  | .hbm, ⟨92, _⟩ => ⟨S4096x1x1, .i32⟩
  | .hbm, ⟨93, _⟩ => ⟨S1, .i32⟩
  | .hbm, ⟨94, _⟩ => ⟨S_, .i32⟩
  | .hbm, ⟨95, _⟩ => ⟨S4096x1x1, .i32⟩
  | .hbm, ⟨96, _⟩ => ⟨S4096x1x1, .i1⟩
  | .hbm, ⟨97, _⟩ => ⟨S1x1x1, .i32⟩
  | .hbm, ⟨98, _⟩ => ⟨S4096x1x1, .i32⟩
  | .hbm, ⟨99, _⟩ => ⟨S4096x1x1, .i1⟩
  | .hbm, ⟨100, _⟩ => ⟨S4096x1x1, .i1⟩
  | .hbm, ⟨101, _⟩ => ⟨S_, .i1⟩
  | .hbm, ⟨102, _⟩ => ⟨S4096x1, .i1⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S4096, .f32⟩
  | .hbm, ⟨108, _⟩ => ⟨S4096, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | _, _ => ⟨S101x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_call1_cst : Ref sig .tc := ⟨.hbm, 41, rfl⟩
abbrev main_call1_v0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_call2_cst : Ref sig .tc := ⟨.hbm, 48, rfl⟩
abbrev main_call2_v0 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_call4_cst : Ref sig .tc := ⟨.hbm, 62, rfl⟩
abbrev main_call4_v0 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_call5_cst : Ref sig .tc := ⟨.hbm, 69, rfl⟩
abbrev main_call5_v0 : Ref sig .tc := ⟨.hbm, 70, rfl⟩
abbrev main_call5_cst_0 : Ref sig .tc := ⟨.hbm, 71, rfl⟩
abbrev main_call5_v1 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_v5 : Ref sig .tc := ⟨.hbm, 76, rfl⟩
abbrev main_call5_v6 : Ref sig .tc := ⟨.hbm, 77, rfl⟩
abbrev main_call5_cst_1 : Ref sig .tc := ⟨.hbm, 78, rfl⟩
abbrev main_call5_v7 : Ref sig .tc := ⟨.hbm, 79, rfl⟩
abbrev main_call5_v8 : Ref sig .tc := ⟨.hbm, 80, rfl⟩
abbrev main_call5_v9 : Ref sig .tc := ⟨.hbm, 81, rfl⟩
abbrev main_call5_v10 : Ref sig .tc := ⟨.hbm, 82, rfl⟩
abbrev main_v26 : Ref sig .tc := ⟨.hbm, 83, rfl⟩
abbrev main_v27 : Ref sig .tc := ⟨.hbm, 84, rfl⟩
abbrev main_call6_c : Ref sig .tc := ⟨.hbm, 85, rfl⟩
abbrev main_call6_v0 : Ref sig .tc := ⟨.hbm, 86, rfl⟩
abbrev main_call6_v1 : Ref sig .tc := ⟨.hbm, 87, rfl⟩
abbrev main_call6_c_0 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_c_1 : Ref sig .tc := ⟨.hbm, 93, rfl⟩
abbrev main_call6_c_2 : Ref sig .tc := ⟨.hbm, 94, rfl⟩
abbrev main_call6_v6 : Ref sig .tc := ⟨.hbm, 95, rfl⟩
abbrev main_call6_v7 : Ref sig .tc := ⟨.hbm, 96, rfl⟩
abbrev main_call6_v8 : Ref sig .tc := ⟨.hbm, 97, rfl⟩
abbrev main_call6_v9 : Ref sig .tc := ⟨.hbm, 98, rfl⟩
abbrev main_call6_v10 : Ref sig .tc := ⟨.hbm, 99, rfl⟩
abbrev main_call6_v11 : Ref sig .tc := ⟨.hbm, 100, rfl⟩
abbrev main_call6_c_3 : Ref sig .tc := ⟨.hbm, 101, rfl⟩
abbrev main_call6_v12 : Ref sig .tc := ⟨.hbm, 102, rfl⟩
abbrev main_call6_v13 : Ref sig .tc := ⟨.hbm, 103, rfl⟩
abbrev main_call6_cst : Ref sig .tc := ⟨.hbm, 104, rfl⟩
abbrev main_call6_v14 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_cst : Ref sig .tc := ⟨.hbm, 109, rfl⟩
abbrev main_v31 : Ref sig .tc := ⟨.hbm, 110, rfl⟩
abbrev main_cst_0 : Ref sig .tc := ⟨.hbm, 111, rfl⟩
abbrev main_v32 : Ref sig .tc := ⟨.hbm, 112, rfl⟩

abbrev nD : Nat := 1
abbrev τ : Topo := Topo.v7x

variable {F : FTy → Type} [FloatOps F]
-- ==== Proof.KernelRun.lean ====
/-
  The kernel's whole run: every buffer of the program ends at the contents the chain of its host stretches and its
  three regions leaves, and no semaphore is held.
-/
module

public import proofs.«01_k».proof.Proof.Gen.KernelIdeal.Frame

@[expose] public section

set_option maxRecDepth 16384

noncomputable section

namespace Cert.K01

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every buffer outside the scopes ends at the last boundary's contents, and every semaphore at zero. -/
theorem kernel_run : θ_run defs (onTc (τ := τ) (main (F := F))) ⟨m, fun _ => 0, ρ⟩ (fun r =>
      (∀ (c : Dev nD), ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.K01
-- ==== Proof.Spec.lean ====
/-
  The mathematics both programs compute, over the extended reals and over nothing of either program: one dense
  layer, the rectifier, the layers after the first, and a row's cross-entropy.
-/
module

public import Idealize.ShloMosaic.Lib.Pointwise

@[expose] public section

noncomputable section

namespace Cert.K01

open Idealize.ShloMosaic

/-- One dense layer: the row `x` against the columns of `W`, plus the bias. -/
def dense {n m : ℕ} (x : Fin n → EReal) (W : Fin n → Fin m → EReal) (b : Fin m → EReal) (j : Fin m) : EReal :=
  (∑ k, x k * W k j) + b j

/-- The rectifier, entry by entry. -/
def act {n : ℕ} (x : Fin n → EReal) (k : Fin n) : EReal := max (x k) 0

/-- The extended reals that are real numbers. -/
def IsReal (x : EReal) : Prop := ∃ r : ℝ, x = (r : EReal)

/-- The entries of a row with one `1` per selected lane: lane `l` counts how many of the three numbers are `l`. -/
def hot {n : ℕ} (a b c : ℕ) (l : Fin n) : EReal :=
  (if l.val = a then 1 else 0) + (if l.val = b then 1 else 0) + (if l.val = c then 1 else 0)

/-- A row's largest entry. -/
def rowMax {n : ℕ} (p : Fin n → EReal) : EReal := Finset.univ.fold max ⊥ p

/-- A row's sum of exponentials, each entry lowered by the row's largest. -/
def expSum {n : ℕ} (p : Fin n → EReal) : EReal := ∑ l, Ideal.exp (p l - rowMax p)

/-- The first layer on the folded table: one selected row per slot, the second and third slots' rows 128 and 256 further
    down, and the bias. -/
def first (t : Fin 3 → ℕ) (M : Fin 384 → Fin 2048 → EReal) (b : Fin 2048 → EReal) : Fin 2048 → EReal :=
  dense (hot (t 0) (t 1 + 128) (t 2 + 256)) M b

/-- The layers after the first: three hidden layers and the output layer, each behind the rectifier. -/
def mlp {n : ℕ} (x : Fin 2048 → EReal) (W1 : Fin 2048 → Fin 2048 → EReal) (b1 : Fin 2048 → EReal)
    (W2 : Fin 2048 → Fin 2048 → EReal) (b2 : Fin 2048 → EReal) (W3 : Fin 2048 → Fin 2048 → EReal) (b3 : Fin 2048 → EReal)
    (W4 : Fin 2048 → Fin n → EReal) (b4 : Fin n → EReal) : Fin n → EReal :=
  dense (act (dense (act (dense (act (dense (act x) W1 b1)) W2 b2)) W3 b3)) W4 b4

/-- A row's cross-entropy as the kernel takes it: over all its lanes, the label's lane picked out by a sum. -/
def laneLoss {m : ℕ} (q : Fin m → EReal) (y : ℕ) : EReal :=
  rowMax q + Ideal.log (expSum q) - ∑ l : Fin m, if l.val = y then q l else 0

/-- The constant the row maximum starts from is the least extended real. -/
theorem ofBits_negInf : Ideal.ofBits .f32 0xFF800000#32 = ⊥ := by
  simp [Ideal.ofBits, Ideal.ieee]

/-! ### Real numbers among the extended reals -/

theorem IsReal.zero : IsReal 0 := ⟨0, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.max {x y : EReal} (hx : IsReal x) (hy : IsReal y) : IsReal (Max.max x y) := by
  rcases max_choice x y with h | h <;> rw [h] <;> assumption

theorem IsReal.sum {ι : Type} (s : Finset ι) {f : ι → EReal} (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- A dense layer of real numbers is real. -/
theorem IsReal.dense {n m : ℕ} {x : Fin n → EReal} {W : Fin n → Fin m → EReal} {b : Fin m → EReal}
    (hx : ∀ k, IsReal (x k)) (hW : ∀ k j, IsReal (W k j)) (hb : ∀ j, IsReal (b j)) (j : Fin m) :
    IsReal (dense x W b j) :=
  (IsReal.sum _ fun k _ => (hx k).mul (hW k j)).add (hb j)

/-- The rectifier of real numbers is real. -/
theorem IsReal.act {n : ℕ} {x : Fin n → EReal} (hx : ∀ k, IsReal (x k)) (k : Fin n) : IsReal (act x k) :=
  (hx k).max IsReal.zero

/-- The layers after the first, of real numbers, are real. -/
theorem IsReal.mlp {n : ℕ} {x : Fin 2048 → EReal} {W1 W2 W3 : Fin 2048 → Fin 2048 → EReal} {b1 b2 b3 : Fin 2048 → EReal}
    {W4 : Fin 2048 → Fin n → EReal} {b4 : Fin n → EReal} (hx : ∀ k, IsReal (x k))
    (hW1 : ∀ k j, IsReal (W1 k j)) (hb1 : ∀ j, IsReal (b1 j)) (hW2 : ∀ k j, IsReal (W2 k j)) (hb2 : ∀ j, IsReal (b2 j))
    (hW3 : ∀ k j, IsReal (W3 k j)) (hb3 : ∀ j, IsReal (b3 j)) (hW4 : ∀ k j, IsReal (W4 k j)) (hb4 : ∀ j, IsReal (b4 j))
    (j : Fin n) : IsReal (mlp x W1 b1 W2 b2 W3 b3 W4 b4 j) :=
  IsReal.dense (IsReal.act (IsReal.dense (IsReal.act (IsReal.dense (IsReal.act (IsReal.dense (IsReal.act hx) hW1 hb1)) hW2 hb2))
    hW3 hb3)) hW4 hb4 j

/-! ### The folded first layer -/

/-- A row of selections against a table adds up the selected rows' entries. -/
theorem sum_hot {n : ℕ} (a b c : Fin n) (M : Fin n → EReal) :
    (∑ l, hot a.val b.val c.val l * M l) = M a + M b + M c := by
  have hone (a : Fin n) : (∑ l : Fin n, (if l.val = a.val then (1 : EReal) else 0) * M l) = M a := by
    rw [Finset.sum_eq_single a]
    · simp
    · intro l _ h
      rw [if_neg (fun e => h (Fin.ext e)), zero_mul]
    · intro h; exact absurd (Finset.mem_univ a) h
  have hnn (a : ℕ) (l : Fin n) : (0 : EReal) ≤ if l.val = a then 1 else 0 := by split <;> simp
  rw [← hone a, ← hone b, ← hone c, ← Finset.sum_add_distrib, ← Finset.sum_add_distrib]
  refine Finset.sum_congr rfl fun l _ => ?_
  rw [hot, EReal.right_distrib_of_nonneg (add_nonneg (hnn _ _) (hnn _ _)) (hnn _ _),
    EReal.right_distrib_of_nonneg (hnn _ _) (hnn _ _)]

/-- A sum over the 6144 places of three concatenated rows, as the three rows' sums. -/
theorem sum_6144 (f : Fin 6144 → EReal) :
    (∑ k, f k) = (∑ k : Fin 2048, f ⟨k.val, by omega⟩) + (∑ k : Fin 2048, f ⟨2048 + k.val, by omega⟩)
      + (∑ k : Fin 2048, f ⟨4096 + k.val, by omega⟩) := by
  have h1 := Fin.sum_univ_add (a := 4096) (b := 2048) f
  have h2 := Fin.sum_univ_add (a := 2048) (b := 2048) fun k : Fin (2048 + 2048) => f (Fin.castAdd 2048 k)
  exact h1.trans (congrArg (· + _) h2)

/-! ### A row's cross-entropy -/

/-- The largest entry, as a supremum. -/
theorem rowMax_eq_sup {n : ℕ} (p : Fin n → EReal) : rowMax p = Finset.univ.sup p := rfl

/-- The largest entry of a nonempty row of real numbers is real. -/
theorem IsReal.rowMax {n : ℕ} [NeZero n] {p : Fin n → EReal} (hp : ∀ l, IsReal (p l)) : IsReal (rowMax p) := by
  obtain ⟨l, -, hl⟩ := Finset.exists_mem_eq_sup Finset.univ ⟨(0 : Fin n), Finset.mem_univ _⟩ p
  rw [rowMax_eq_sup, hl]
  exact hp l

/-- A sum of exponentials of a row of real numbers is a positive real. -/
theorem expSum_pos {n : ℕ} [NeZero n] {p : Fin n → EReal} (hp : ∀ l, IsReal (p l)) :
    ∃ r : ℝ, 0 < r ∧ expSum p = (r : EReal) := by
  obtain ⟨m, hm⟩ := IsReal.rowMax hp
  choose q hq using hp
  refine ⟨∑ l, Real.exp (q l - m), Finset.sum_pos (fun l _ => Real.exp_pos _) ⟨(0 : Fin n), Finset.mem_univ _⟩, ?_⟩
  have e (l : Fin n) : Ideal.exp (p l - rowMax p) = ((Real.exp (q l - m) : ℝ) : EReal) := by
    rw [hm, hq l, ← EReal.coe_sub]
    rfl
  rw [expSum, Finset.sum_congr rfl fun l _ => e l]
  induction (Finset.univ : Finset (Fin n)) using Finset.induction_on with
  | empty => simp
  | insert a s ha ih => rw [Finset.sum_insert ha, Finset.sum_insert ha, ih, EReal.coe_add]

/-- So its logarithm is real. -/
theorem IsReal.log_expSum {n : ℕ} [NeZero n] {p : Fin n → EReal} (hp : ∀ l, IsReal (p l)) :
    IsReal (Ideal.log (expSum p)) := by
  obtain ⟨r, hr, h⟩ := expSum_pos hp
  exact ⟨Real.log r, by rw [h]; exact if_neg (not_le.mpr hr)⟩

/-- A row's cross-entropy at the label `y`: the logarithm of the sum of exponentials less the label's entry. -/
def rowLoss {n : ℕ} (p : Fin n → EReal) (y : Fin n) : EReal := rowMax p + Ideal.log (expSum p) - p y

/-- The cross-entropy of a row of real numbers is real. -/
theorem IsReal.rowLoss {n : ℕ} [NeZero n] {p : Fin n → EReal} (hp : ∀ l, IsReal (p l)) (y : Fin n) :
    IsReal (rowLoss p y) := by
  obtain ⟨m, hm⟩ := IsReal.rowMax hp
  obtain ⟨s, hs⟩ := IsReal.log_expSum hp
  obtain ⟨v, hv⟩ := hp y
  exact ⟨m + s - v, by rw [K01.rowLoss, hm, hs, hv, ← EReal.coe_add, ← EReal.coe_sub]⟩

/-- The negative of the label's log-probability is the row's cross-entropy, for a row of real numbers. -/
theorem neg_logp {n : ℕ} [NeZero n] {p : Fin n → EReal} (hp : ∀ l, IsReal (p l)) (y : Fin n) :
    -(p y - rowMax p - Ideal.log (expSum p)) = rowLoss p y := by
  obtain ⟨m, hm⟩ := IsReal.rowMax hp
  obtain ⟨s, hs⟩ := IsReal.log_expSum hp
  obtain ⟨v, hv⟩ := hp y
  rw [rowLoss, hm, hs, hv, ← EReal.coe_add, ← EReal.coe_sub, ← EReal.coe_sub, ← EReal.coe_sub, ← EReal.coe_neg]
  congr 1
  ring

/-- Lanes filled with the least value leave the row's largest entry as it is. -/
theorem rowMax_pad {n m : ℕ} (hnm : n ≤ m) {p : Fin n → EReal} {q : Fin m → EReal}
    (hq : ∀ l : Fin n, q (Fin.castLE hnm l) = p l) (hb : ∀ l : Fin m, n ≤ l.val → q l = ⊥) : rowMax q = rowMax p := by
  rw [rowMax_eq_sup, rowMax_eq_sup]
  refine le_antisymm (Finset.sup_le fun l _ => ?_) (Finset.sup_le fun l _ => ?_)
  · by_cases h : l.val < n
    · exact (hq ⟨l.val, h⟩).le.trans (Finset.le_sup (f := p) (Finset.mem_univ _))
    · rw [hb l (not_lt.mp h)]; exact bot_le
  · exact (hq l).ge.trans (Finset.le_sup (f := q) (Finset.mem_univ _))

/-- And they add nothing to the sum of exponentials. -/
theorem expSum_pad {n m : ℕ} (hnm : n ≤ m) {p : Fin n → EReal} {q : Fin m → EReal}
    (hq : ∀ l : Fin n, q (Fin.castLE hnm l) = p l) (hb : ∀ l : Fin m, n ≤ l.val → q l = ⊥) : expSum q = expSum p := by
  obtain ⟨k, rfl⟩ := Nat.exists_eq_add_of_le hnm
  rw [expSum, Fin.sum_univ_add, expSum, rowMax_pad hnm hq hb]
  rw [Finset.sum_eq_zero (s := (Finset.univ : Finset (Fin k))), add_zero]
  · exact Finset.sum_congr rfl fun l _ => congrArg (fun x => Ideal.exp (x - rowMax p)) (hq l)
  · intro l _
    rw [hb _ (by simp), EReal.bot_sub]
    rfl

/-- The sum over the lanes that keeps only the label's lane is that lane's entry. -/
theorem sum_pick {m : ℕ} (q : Fin m → EReal) (y : Fin m) : (∑ l : Fin m, if l.val = y.val then q l else 0) = q y := by
  rw [Finset.sum_eq_single y]
  · simp
  · intro l _ h; exact if_neg fun e => h (Fin.ext e)
  · intro h; exact absurd (Finset.mem_univ y) h

/-- A row's cross-entropy taken over the padded lanes is the row's cross-entropy. -/
theorem rowLoss_pad {n m : ℕ} (hnm : n ≤ m) {p : Fin n → EReal} {q : Fin m → EReal}
    (hq : ∀ l : Fin n, q (Fin.castLE hnm l) = p l) (hb : ∀ l : Fin m, n ≤ l.val → q l = ⊥) (y : Fin n) :
    laneLoss q y.val = rowLoss p y := by
  have h := sum_pick q (Fin.castLE hnm y)
  rw [hq y] at h
  rw [laneLoss, rowMax_pad hnm hq hb, expSum_pad hnm hq hb, rowLoss]
  exact congrArg _ h

/-! ### The mean over the rows -/

/-- A finite sum of real numbers, read as one real number. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sixteen blocks' sums, each scaled by `1/4096` before they are added, are the sum over all the rows scaled
    once, for real numbers. -/
theorem mean_blocks (f : Fin 4096 → EReal) (hf : ∀ i, IsReal (f i)) :
    (∑ t : Fin 16, (∑ r : Fin 256, f ⟨t.val * 256 + r.val, by omega⟩) * (((1 / 4096 : ℝ)) : EReal))
      = (∑ i, f i) * (((1 / 4096 : ℝ)) : EReal) := by
  choose g hg using hf
  obtain rfl : f = fun i => (g i : EReal) := funext hg
  simp only [← coe_sum, ← EReal.coe_mul]
  congr 1
  rw [← Finset.sum_mul]
  congr 1
  rw [← Finset.sum_product', Finset.univ_product_univ]
  refine Fintype.sum_equiv ((finProdFinEquiv (m := 16) (n := 256)).trans (finCongr (by norm_num))) _ _ fun x => ?_
  congr 1
  ext
  simp [finProdFinEquiv]
  omega

/-! ### The reference's row -/

/-- The three looked-up table rows, side by side. -/
def embedRow (E : Fin 101 → Fin 2048 → EReal) (t : Fin 3 → Fin 101) (k : Fin 6144) : EReal :=
  E (t ⟨k.val / 2048, by omega⟩) ⟨k.val % 2048, by omega⟩

/-- The prediction of one row: the five layers over the three looked-up table rows. -/
def predRow (E : Fin 101 → Fin 2048 → EReal) (t : Fin 3 → Fin 101) (W0 : Fin 6144 → Fin 2048 → EReal) (b0 : Fin 2048 → EReal)
    (W1 : Fin 2048 → Fin 2048 → EReal) (b1 : Fin 2048 → EReal) (W2 : Fin 2048 → Fin 2048 → EReal) (b2 : Fin 2048 → EReal)
    (W3 : Fin 2048 → Fin 2048 → EReal) (b3 : Fin 2048 → EReal) (W4 : Fin 2048 → Fin 5 → EReal) (b4 : Fin 5 → EReal) :
    Fin 5 → EReal :=
  mlp (dense (embedRow E t) W0 b0) W1 b1 W2 b2 W3 b3 W4 b4

/-- The first layer on the folded table is the first layer on the looked-up rows, when row `128 p + a` of the folded table is
    table row `a` times the `p`-th 2048 rows of the first weight. -/
theorem first_eq_dense (E : Fin 101 → Fin 2048 → EReal) (t : Fin 3 → Fin 101) (W0 : Fin 6144 → Fin 2048 → EReal)
    (b0 : Fin 2048 → EReal) (M : Fin 384 → Fin 2048 → EReal)
    (hM : ∀ (p : Fin 3) (a : Fin 101) l, M ⟨p.val * 128 + a.val, by omega⟩ l = ∑ k : Fin 2048, E a k * W0 ⟨p.val * 2048 + k.val, by omega⟩ l) :
    first (fun p => (t p).val) M b0 = dense (embedRow E t) W0 b0 := by
  funext j
  unfold first dense
  refine congrArg (· + b0 j) ?_
  have h := sum_hot (⟨(t 0).val, by omega⟩ : Fin 384) ⟨(t 1).val + 128, by omega⟩ ⟨(t 2).val + 256, by omega⟩ fun l => M l j
  refine h.trans ?_
  rw [sum_6144]
  have e0 := hM 0 (t 0) j
  have e1 := hM 1 (t 1) j
  have e2 := hM 2 (t 2) j
  refine congrArg₂ (· + ·) (congrArg₂ (· + ·) ?_ ?_) ?_
  · refine (congrArg (M · j) (Fin.ext ?_)).trans (e0.trans (Finset.sum_congr rfl fun k _ => ?_))
    · show (t 0).val = 0 * 128 + (t 0).val
      omega
    · refine congrArg₂ (· * ·) (congrArg₂ E (congrArg t (Fin.ext ?_)) (Fin.ext ?_)) (congrArg (W0 · j) (Fin.ext ?_))
      · show 0 = k.val / 2048
        omega
      · show k.val = k.val % 2048
        omega
      · show 0 * 2048 + k.val = k.val
        omega
  · refine (congrArg (M · j) (Fin.ext ?_)).trans (e1.trans (Finset.sum_congr rfl fun k _ => ?_))
    · show (t 1).val + 128 = 1 * 128 + (t 1).val
      omega
    · refine congrArg₂ (· * ·) (congrArg₂ E (congrArg t (Fin.ext ?_)) (Fin.ext ?_)) (congrArg (W0 · j) (Fin.ext ?_))
      · show 1 = (2048 + k.val) / 2048
        omega
      · show k.val = (2048 + k.val) % 2048
        omega
      · show 1 * 2048 + k.val = 2048 + k.val
        omega
  · refine (congrArg (M · j) (Fin.ext ?_)).trans (e2.trans (Finset.sum_congr rfl fun k _ => ?_))
    · show (t 2).val + 256 = 2 * 128 + (t 2).val
      omega
    · refine congrArg₂ (· * ·) (congrArg₂ E (congrArg t (Fin.ext ?_)) (Fin.ext ?_)) (congrArg (W0 · j) (Fin.ext ?_))
      · show 2 = (4096 + k.val) / 2048
        omega
      · show k.val = (4096 + k.val) % 2048
        omega
      · show 2 * 2048 + k.val = 4096 + k.val
        omega

/-- A row's prediction from real numbers is real. -/
theorem IsReal.predRow {E : Fin 101 → Fin 2048 → EReal} {W0 : Fin 6144 → Fin 2048 → EReal} {b0 : Fin 2048 → EReal}
    {W1 W2 W3 : Fin 2048 → Fin 2048 → EReal} {b1 b2 b3 : Fin 2048 → EReal}
    {W4 : Fin 2048 → Fin 5 → EReal} {b4 : Fin 5 → EReal} (hE : ∀ a k, IsReal (E a k)) (t : Fin 3 → Fin 101)
    (hW0 : ∀ k j, IsReal (W0 k j)) (hb0 : ∀ j, IsReal (b0 j))
    (hW1 : ∀ k j, IsReal (W1 k j)) (hb1 : ∀ j, IsReal (b1 j)) (hW2 : ∀ k j, IsReal (W2 k j)) (hb2 : ∀ j, IsReal (b2 j))
    (hW3 : ∀ k j, IsReal (W3 k j)) (hb3 : ∀ j, IsReal (b3 j)) (hW4 : ∀ k j, IsReal (W4 k j)) (hb4 : ∀ j, IsReal (b4 j))
    (j : Fin 5) : IsReal (predRow E t W0 b0 W1 b1 W2 b2 W3 b3 W4 b4 j) :=
  IsReal.mlp (IsReal.dense (fun _ => hE _ _) hW0 hb0) hW1 hb1 hW2 hb2 hW3 hb3 hW4 hb4 j

end Cert.K01
-- ==== Proof.Payload.lean ====
/-
  What each block of the kernel computes, read at one place of the block: the fold of the first layer, the padded
  bias, the layers of the perceptron, the row's cross-entropy and the block's share of the loss.
-/
module

public import proofs.«01_k».proof.Proof.Gen.KernelIdeal.Skeleton
public import proofs.«01_k».proof.Proof.Spec
public import Idealize.ShloMosaic.Lib.WordCmp

@[expose] public section

set_option maxRecDepth 16384

noncomputable section

namespace Cert.K01

open Idealize.ShloMosaic Cert.KernelIdeal Cert.KernelIdeal.Gen
open Idealize.ShloMosaic.WordCmp (cmpi_eq_eq_toNat cmpi_slt_ofNat)

/-- A matrix read as a function of its row and column. -/
abbrev mat {n m : ℕ} (x : (⟨2, ![n, m]⟩ : Shape).Idx → EReal) (r : Fin n) (l : Fin m) : EReal := x (ix2 r l)

/-- The one row of a matrix with one row. -/
abbrev row0 {m : ℕ} (x : (⟨2, ![1, m]⟩ : Shape).Idx → EReal) (l : Fin m) : EReal := x (ix2 0 l)

/-! ### Words and constants -/

/-- The mask is the least extended real. -/
theorem mask_eq : (Named.named (F := Ideal) κ "mask" 0xF149F2CA#32 : Ideal .f32) = ⊥ :=
  (IdealRules.named_const.statement κ "mask" .f32 0xF149F2CA#32 ⊥ rfl).2.2

/-- The constant that scales a block's loss is `1/4096`. -/
theorem ofBits_scale : Ideal.ofBits .f32 0x39800000#32 = ((1 / 4096 : ℝ) : EReal) := by
  simp [Ideal.ofBits, Ideal.ieee]
  rw [← EReal.coe_mul]
  norm_num

/-- A comparison of a lane number with a word, as a comparison of numbers. -/
theorem select_lane {α : Type} (l : ℕ) (hl : l < 2 ^ 32) (w : BitVec 32) (a b : α) :
    Scalar.select (IntOp.cmpi CmpIPredicate.eq (BitVec.ofNat 32 l) w) a b = if l = w.toNat then a else b := by
  rw [cmpi_eq_eq_toNat, Scalar.select, BitVec.toNat_ofNat, Nat.mod_eq_of_lt hl]
  by_cases h : l = w.toNat <;> simp [h]

/-- The comparison of a lane number with a shifted word, read as the number one or zero. -/
theorem lane_eq (l : ℕ) (hl : l < 384) (w : BitVec 32) (k : ℕ) (hk : k < 384) (hw : w.toNat < 101) :
    FloatOps.sitofp (F := Ideal) FTy.f32
        (BitVec.setWidth 32 (IntOp.cmpi CmpIPredicate.eq (BitVec.ofNat 32 l) (IntOp.addi w (BitVec.ofNat 32 k))))
      = if l = w.toNat + k then (1 : EReal) else 0 := by
  have e : (IntOp.addi w (BitVec.ofNat 32 k)).toNat = w.toNat + k := by
    rw [IntOp.addi, BitVec.toNat_add, BitVec.toNat_ofNat, Nat.mod_eq_of_lt (by omega), Nat.mod_eq_of_lt (by omega)]
  rw [cmpi_eq_eq_toNat, e, BitVec.toNat_ofNat, Nat.mod_eq_of_lt (by omega)]
  by_cases h : l = w.toNat + k
  · simp only [h, decide_true, if_true]
    have h' : (BitVec.setWidth 32 (BitVec.ofBool true)).toInt = 1 := by decide
    change (((BitVec.setWidth 32 (BitVec.ofBool true)).toInt : ℝ) : EReal) = 1
    rw [h']
    norm_num
  · simp only [h, decide_false, if_false]
    have h' : (BitVec.setWidth 32 (BitVec.ofBool false)).toInt = 0 := by decide
    change (((BitVec.setWidth 32 (BitVec.ofBool false)).toInt : ℝ) : EReal) = 0
    rw [h']
    norm_num

/-! ### The blocks -/

/-- The fold kernel's block: a table row against the columns of the slab. -/
theorem fold_apply (v0 : FVec Ideal S128x2048 .f32) (v2 : FVec Ideal S1x2048x2048 .f32) (r : Fin 128) (l : Fin 2048) :
    k0_pay1 v0 v2 (ix3 0 r l) = ∑ k : Fin 2048, v0 (ix2 r k) * v2 (ix3 0 k l) := by
  pointwise [k0_pay1]

/-- The bias kernel's block: the given value on the first five lanes, the mask on the others. -/
theorem bias_apply (v3 : FVec Ideal S1x128 .f32) (l : Fin 128) :
    k1_pay1 v3 (ix2 0 l) = if l.val < 5 then v3 (ix2 0 l) else ⊥ := by
  pointwise [k1_pay1]
  rw [mask_eq, cmpi_slt_ofNat (by omega) (by norm_num), Scalar.select]
  by_cases h : l.val < 5 <;> simp [h]

/-- The ids of one row of a block, as numbers. -/
abbrev ids {n : ℕ} (v : IVec (⟨2, ![n, 3]⟩ : Shape) 32) (r : Fin n) (p : Fin 3) : ℕ := (v (ix2 r p)).toNat

/-- The first two layers of a block, for ids below 101: the selections against the folded table, the bias, the
    rectifier, and the next layer. -/
theorem layers1_apply (v0 : IVec S256x3 32) (M : FVec Ideal S384x2048 .f32) (b0 : FVec Ideal S1x2048 .f32)
    (W1 : FVec Ideal S2048x2048 .f32) (b1 : FVec Ideal S1x2048 .f32) (r : Fin 256) (h : ∀ p, ids v0 r p < 101) (j : Fin 2048) :
    k2_pay2 (F := Ideal) v0 M b0 W1 b1 (ix2 r j)
      = dense (act (first (ids v0 r) (mat M) (row0 b0))) (mat W1) (row0 b1) j := by
  pointwise [k2_pay2]
  refine congrArg (· + _) (Finset.sum_congr rfl fun x _ => congrArg (· * _) (congrArg (max · _) (congrArg (· + _) ?_)))
  refine Finset.sum_congr rfl fun l _ => congrArg (· * _) ?_
  rw [lane_eq l.val l.isLt _ 0 (by norm_num) (h 0), lane_eq l.val l.isLt _ 128 (by norm_num) (h 1),
    lane_eq l.val l.isLt _ 256 (by norm_num) (h 2)]
  rfl

/-- The last three layers of a block. -/
theorem layers2_apply (h : FVec Ideal S256x2048 .f32) (W2 : FVec Ideal S2048x2048 .f32) (b2 : FVec Ideal S1x2048 .f32)
    (W3 : FVec Ideal S2048x2048 .f32) (b3 : FVec Ideal S1x2048 .f32) (W4 : FVec Ideal S2048x128 .f32) (b4 : FVec Ideal S1x128 .f32)
    (r : Fin 256) (l : Fin 128) :
    k2_pay3 (F := Ideal) h W2 b2 W3 b3 W4 b4 (ix2 r l)
      = dense (act (dense (act (dense (act (mat h r)) (mat W2) (row0 b2))) (mat W3) (row0 b3))) (mat W4) (row0 b4) l := by
  pointwise [k2_pay3]
  rfl

/-- A block's row statistic: the row's largest entry plus the logarithm of its sum of exponentials. -/
theorem lse_apply (h : FVec Ideal S256x2048 .f32) (W2 : FVec Ideal S2048x2048 .f32) (b2 : FVec Ideal S1x2048 .f32)
    (W3 : FVec Ideal S2048x2048 .f32) (b3 : FVec Ideal S1x2048 .f32) (W4 : FVec Ideal S2048x128 .f32) (b4 : FVec Ideal S1x128 .f32)
    (r : Fin 256) :
    k2_pay4 (F := Ideal) h W2 b2 W3 b3 W4 b4 (ix2 r 0)
      = rowMax (mat (k2_pay3 (F := Ideal) h W2 b2 W3 b3 W4 b4) r)
        + Ideal.log (expSum (mat (k2_pay3 (F := Ideal) h W2 b2 W3 b3 W4 b4) r)) := by
  unfold k2_pay4
  generalize k2_pay3 (F := Ideal) h W2 b2 W3 b3 W4 b4 = p
  pointwise []
  rw [ofBits_negInf]
  rfl

/-- A block's share of the loss: each row's statistic less the entry on the label's lane, added up and scaled. -/
theorem loss_apply (p : FVec Ideal S256x128 .f32) (z : FVec Ideal S256x1 .f32) (lab : IVec S256x1 32) :
    k2_pay1 (F := Ideal) p z lab
      = (∑ r : Fin 256, (z (ix2 r 0) - ∑ l : Fin 128, if l.val = (lab (ix2 r 0)).toNat then mat p r l else 0))
        * ((1 / 4096 : ℝ) : EReal) := by
  pointwise [k2_pay1]
  rw [ofBits_scale]
  refine congrArg (· * _) (Finset.sum_congr rfl fun r _ => ?_)
  rw [Fin.sum_univ_one]
  refine congrArg (_ - ·) (Finset.sum_congr rfl fun l _ => ?_)
  rw [select_lane l.val (by omega)]

/-- A block's predictions, for ids below 101: every layer on the block's rows. -/
theorem pred_apply (v0 : IVec S256x3 32) (M : FVec Ideal S384x2048 .f32) (b0 : FVec Ideal S1x2048 .f32)
    (W1 : FVec Ideal S2048x2048 .f32) (b1 : FVec Ideal S1x2048 .f32) (W2 : FVec Ideal S2048x2048 .f32) (b2 : FVec Ideal S1x2048 .f32)
    (W3 : FVec Ideal S2048x2048 .f32) (b3 : FVec Ideal S1x2048 .f32) (W4 : FVec Ideal S2048x128 .f32) (b4 : FVec Ideal S1x128 .f32)
    (r : Fin 256) (h : ∀ p, ids v0 r p < 101) (l : Fin 128) :
    k2_pay3 (F := Ideal) (k2_pay2 v0 M b0 W1 b1) W2 b2 W3 b3 W4 b4 (ix2 r l)
      = mlp (first (ids v0 r) (mat M) (row0 b0)) (mat W1) (row0 b1) (mat W2) (row0 b2) (mat W3) (row0 b3) (mat W4) (row0 b4) l := by
  rw [layers2_apply, show mat (k2_pay2 (F := Ideal) v0 M b0 W1 b1) r
    = dense (act (first (ids v0 r) (mat M) (row0 b0))) (mat W1) (row0 b1) from funext (layers1_apply v0 M b0 W1 b1 r h)]
  rfl

/-- A block's share of the loss, over the block's rows of predictions. -/
theorem share_apply (h : FVec Ideal S256x2048 .f32) (W2 : FVec Ideal S2048x2048 .f32) (b2 : FVec Ideal S1x2048 .f32)
    (W3 : FVec Ideal S2048x2048 .f32) (b3 : FVec Ideal S1x2048 .f32) (W4 : FVec Ideal S2048x128 .f32) (b4 : FVec Ideal S1x128 .f32)
    (lab : IVec S256x1 32) :
    k2_pay1 (F := Ideal) (k2_pay3 h W2 b2 W3 b3 W4 b4) (k2_pay4 h W2 b2 W3 b3 W4 b4) lab
      = (∑ r : Fin 256, laneLoss (mat (k2_pay3 (F := Ideal) h W2 b2 W3 b3 W4 b4) r) (lab (ix2 r 0)).toNat)
        * ((1 / 4096 : ℝ) : EReal) := by
  have hz := lse_apply h W2 b2 W3 b3 W4 b4
  generalize k2_pay4 (F := Ideal) h W2 b2 W3 b3 W4 b4 = z at hz ⊢
  generalize k2_pay3 (F := Ideal) h W2 b2 W3 b3 W4 b4 = p at hz ⊢
  rw [loss_apply]
  simp only [hz, laneLoss]

end Cert.K01
-- ==== Proof.Regions.lean ====
/-
  What the kernel's first two launches leave: the folded first-layer table, slab by slab, and the padded bias.
-/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.K01

open Idealize.ShloMosaic Idealize.ShloMosaic.TcCoe
open Cert.KernelIdeal Cert.KernelIdeal.Gen

variable (V : (c : Dev nD) → (b : Ref sig .tc) → Buf (Elt Ideal) ((c : Thread nD τ).loc b))

theorem idx0_0 : ∀ t : Fin cfg0.N, win0_0.index t = ![0, 0] := (by decide +kernel : ∀ t : Fin grid0.N, _)
theorem idx0_1 : ∀ t : Fin cfg0.N, win0_1.index t = ![t.val, 0, 0] := (by decide +kernel : ∀ t : Fin grid0.N, _)
theorem idx0_2 : ∀ t : Fin cfg0.N, win0_2.index t = ![t.val, 0, 0] := (by decide +kernel : ∀ t : Fin grid0.N, _)
theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)

/-- The folded table: entry `(p, r, l)` is table row `r` against column `l` of slab `p`. -/
def foldT (E : FVec Ideal S128x2048 .f32) (W : FVec Ideal S3x2048x2048 .f32) : FVec Ideal S3x128x2048 .f32 := fun i =>
  ∑ k : Fin 2048, E (ix2 (i 1) k) * W (ix3 (i 0) k (i 2))

/-- The padded bias: the given values on the first five lanes, the mask on the others. -/
def biasT (b : FVec Ideal S1x128 .f32) : FVec Ideal S1x128 .f32 := fun i => if (i 1).val < 5 then b (ix2 0 (i 1)) else ⊥

/-- The first launch leaves the folded table. -/
theorem fold_arr (c : Dev nD) : (dat0 V c).arrAt 2 cfg0.N = foldT (V c main_call0_v2) (V c main_call0_v3) := by
  refine (dat0 V c).arrAt_eq_of_covers 2 _ (by decide +kernel) fun t hf y => ?_
  blk_simp
  rw [after0_2]
  frame_out
  obtain ⟨r, l, rfl⟩ : ∃ (r : Fin 128) (l : Fin 2048), y = ix3 0 r l := ⟨y 1, y 2, by
    funext a
    match a with
    | ⟨0, _⟩ => exact Fin.ext (by have := (y 0).isLt; change (y 0).val < 1 at this; change (y 0).val = 0; omega)
    | ⟨1, _⟩ => rfl
    | ⟨2, _⟩ => rfl⟩
  refine (fold_apply _ _ r l).trans ?_
  refine Finset.sum_congr rfl fun k _ => ?_
  refine congrArg₂ (· * ·) ?_ ?_
  · blk_simp [iblk0]
    refine congrArg (V c main_call0_v2) ?_
    blk_ext [idx0_0, idx0_2]
  · blk_simp [iblk0]
    refine congrArg (V c main_call0_v3) ?_
    blk_ext [idx0_1, idx0_2]

/-- The second launch leaves the padded bias. -/
theorem bias_arr (c : Dev nD) : (dat1 V c).arrAt 1 cfg1.N = biasT (V c main_call0_v13) := by
  refine (dat1 V c).arrAt_eq_of_covers 1 _ (by decide +kernel) fun t hf y => ?_
  blk_simp
  rw [after1_1]
  frame_out
  obtain ⟨l, rfl⟩ : ∃ (l : Fin 128), y = ix2 0 l := ⟨y 1, by
    funext a
    match a with
    | ⟨0, _⟩ => exact Fin.ext (by have := (y 0).isLt; change (y 0).val < 1 at this; change (y 0).val = 0; omega)
    | ⟨1, _⟩ => rfl⟩
  refine (bias_apply _ l).trans ?_
  unfold biasT
  blk_simp [iblk1, idx1_0, idx1_1]
  refine ite_congr rfl (fun _ => congrArg (V c main_call0_v13) ?_) fun _ => rfl
  blk_ext [idx1_0, idx1_1]

end Cert.K01
-- ==== Proof.Mlp.lean ====
/-
  What the kernel's main launch leaves: the padded predictions, and each block's share of the loss.
-/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.K01

open Idealize.ShloMosaic Idealize.ShloMosaic.TcCoe
open Cert.KernelIdeal Cert.KernelIdeal.Gen

variable (V : (c : Dev nD) → (b : Ref sig .tc) → Buf (Elt Ideal) ((c : Thread nD τ).loc b))

/-! ### The windows' blocks -/

theorem idx2_0 : ∀ t : Fin cfg2.N, win2_0.index t = ![t.val, 0] := (by decide +kernel : ∀ t : Fin grid2.N, _)
theorem idx2_1 : ∀ t : Fin cfg2.N, win2_1.index t = ![t.val, 0] := (by decide +kernel : ∀ t : Fin grid2.N, _)
theorem idx2_12 : ∀ t : Fin cfg2.N, win2_12.index t = ![t.val, 0] := (by decide +kernel : ∀ t : Fin grid2.N, _)
theorem idx2_13 : ∀ t : Fin cfg2.N, win2_13.index t = ![t.val, 0, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![0, 0] := (by decide +kernel : ∀ t : Fin grid2.N, _)
theorem idx2_8 : ∀ t : Fin cfg2.N, win2_8.index t = ![0, 0] := (by decide +kernel : ∀ t : Fin grid2.N, _)
theorem idx2_9 : ∀ t : Fin cfg2.N, win2_9.index t = ![0, 0] := (by decide +kernel : ∀ t : Fin grid2.N, _)
theorem idx2_10 : ∀ t : Fin cfg2.N, win2_10.index t = ![0, 0] := (by decide +kernel : ∀ t : Fin grid2.N, _)
theorem idx2_11 : ∀ t : Fin cfg2.N, win2_11.index t = ![0, 0] := (by decide +kernel : ∀ t : Fin grid2.N, _)

/-- The global row of row `r` of block `t`. -/
abbrev gRow (t : Fin cfg2.N) (r : Fin 256) : Fin 4096 :=
  ⟨t.val * 256 + r.val, by have h : t.val < 16 := t.isLt; omega⟩

/-- A block of ids is its rows of the ids. -/
theorem blk2_0 (c : Dev nD) (t : Fin cfg2.N) (r : Fin 256) (p : Fin 3) :
    (iblk2 V c 0 t : IVec S256x3 32) (ix2 r p) = (V c main_arg11 : IVec S4096x3 32) (ix2 (gRow t r) p) := by
  blk_simp [iblk2]
  refine congrArg (V c main_arg11) ?_
  blk_ext [idx2_0]

/-- A block of labels is its rows of the labels. -/
theorem blk2_1 (c : Dev nD) (t : Fin cfg2.N) (r : Fin 256) :
    (iblk2 V c 1 t : IVec S256x1 32) (ix2 r 0) = (V c main_call0_v15 : IVec S4096x1 32) (ix2 (gRow t r) 0) := by
  blk_simp [iblk2]
  refine congrArg (V c main_call0_v15) ?_
  blk_ext [idx2_1]

/-- Window 2 holds its whole array at every point. -/
theorem blk2_2 (c : Dev nD) (t : Fin cfg2.N) : (iblk2 V c 2 t : FVec Ideal S384x2048 .f32) = V c main_call0_v5 := by
  funext y
  blk_simp [iblk2]
  refine congrArg (V c main_call0_v5) ?_
  blk_ext [idx2_2]

/-- Window 3 holds its whole array at every point. -/
theorem blk2_3 (c : Dev nD) (t : Fin cfg2.N) : (iblk2 V c 3 t : FVec Ideal S1x2048 .f32) = V c main_call0_v16 := by
  funext y
  blk_simp [iblk2]
  refine congrArg (V c main_call0_v16) ?_
  blk_ext [idx2_3]

/-- Window 4 holds its whole array at every point. -/
theorem blk2_4 (c : Dev nD) (t : Fin cfg2.N) : (iblk2 V c 4 t : FVec Ideal S2048x2048 .f32) = V c main_arg3 := by
  funext y
  blk_simp [iblk2]
  refine congrArg (V c main_arg3) ?_
  blk_ext [idx2_4]

/-- Window 5 holds its whole array at every point. -/
theorem blk2_5 (c : Dev nD) (t : Fin cfg2.N) : (iblk2 V c 5 t : FVec Ideal S1x2048 .f32) = V c main_call0_v17 := by
  funext y
  blk_simp [iblk2]
  refine congrArg (V c main_call0_v17) ?_
  blk_ext [idx2_5]

/-- Window 6 holds its whole array at every point. -/
theorem blk2_6 (c : Dev nD) (t : Fin cfg2.N) : (iblk2 V c 6 t : FVec Ideal S2048x2048 .f32) = V c main_arg5 := by
  funext y
  blk_simp [iblk2]
  refine congrArg (V c main_arg5) ?_
  blk_ext [idx2_6]

/-- Window 7 holds its whole array at every point. -/
theorem blk2_7 (c : Dev nD) (t : Fin cfg2.N) : (iblk2 V c 7 t : FVec Ideal S1x2048 .f32) = V c main_call0_v18 := by
  funext y
  blk_simp [iblk2]
  refine congrArg (V c main_call0_v18) ?_
  blk_ext [idx2_7]

/-- Window 8 holds its whole array at every point. -/
theorem blk2_8 (c : Dev nD) (t : Fin cfg2.N) : (iblk2 V c 8 t : FVec Ideal S2048x2048 .f32) = V c main_arg7 := by
  funext y
  blk_simp [iblk2]
  refine congrArg (V c main_arg7) ?_
  blk_ext [idx2_8]

/-- Window 9 holds its whole array at every point. -/
theorem blk2_9 (c : Dev nD) (t : Fin cfg2.N) : (iblk2 V c 9 t : FVec Ideal S1x2048 .f32) = V c main_call0_v19 := by
  funext y
  blk_simp [iblk2]
  refine congrArg (V c main_call0_v19) ?_
  blk_ext [idx2_9]

/-- Window 10 holds its whole array at every point. -/
theorem blk2_10 (c : Dev nD) (t : Fin cfg2.N) : (iblk2 V c 10 t : FVec Ideal S2048x128 .f32) = V c main_call0_v8 := by
  funext y
  blk_simp [iblk2]
  refine congrArg (V c main_call0_v8) ?_
  blk_ext [idx2_10]

/-- Window 11 holds its whole array at every point. -/
theorem blk2_11 (c : Dev nD) (t : Fin cfg2.N) : (iblk2 V c 11 t : FVec Ideal S1x128 .f32) = V c main_call0_v14 := by
  funext y
  blk_simp [iblk2]
  refine congrArg (V c main_call0_v14) ?_
  blk_ext [idx2_11]

/-! ### The launch's result arrays -/

/-- The padded predictions of row `g`, from the arrays the launch reads. -/
def padRow (T : IVec S4096x3 32) (M : FVec Ideal S384x2048 .f32) (b0 : FVec Ideal S1x2048 .f32)
    (W1 : FVec Ideal S2048x2048 .f32) (b1 : FVec Ideal S1x2048 .f32) (W2 : FVec Ideal S2048x2048 .f32) (b2 : FVec Ideal S1x2048 .f32)
    (W3 : FVec Ideal S2048x2048 .f32) (b3 : FVec Ideal S1x2048 .f32) (W4 : FVec Ideal S2048x128 .f32) (b4 : FVec Ideal S1x128 .f32)
    (g : Fin 4096) : Fin 128 → EReal :=
  mlp (first (ids T g) (mat M) (row0 b0)) (mat W1) (row0 b1) (mat W2) (row0 b2) (mat W3) (row0 b3) (mat W4) (row0 b4)

/-- The padded predictions of row `g`, of the buffers the main launch finds. -/
abbrev padRowV (c : Dev nD) : Fin 4096 → Fin 128 → EReal :=
  padRow (V c main_arg11) (V c main_call0_v5) (V c main_call0_v16) (V c main_arg3) (V c main_call0_v17) (V c main_arg5)
    (V c main_call0_v18) (V c main_arg7) (V c main_call0_v19) (V c main_call0_v8) (V c main_call0_v14)

/-- Block `t`'s predictions are its rows of the padded predictions, for ids below 101. -/
theorem blk_pred (c : Dev nD) (hT : ∀ g p, ids (V c main_arg11 : IVec S4096x3 32) g p < 101) (t : Fin cfg2.N) (r : Fin 256) (l : Fin 128) :
    k2_pay3 (F := Ideal) (k2_pay2 (iblk2 V c 0 t) (iblk2 V c 2 t) (iblk2 V c 3 t) (iblk2 V c 4 t) (iblk2 V c 5 t)) (iblk2 V c 6 t)
      (iblk2 V c 7 t) (iblk2 V c 8 t) (iblk2 V c 9 t) (iblk2 V c 10 t) (iblk2 V c 11 t) (ix2 r l)
      = padRowV V c (gRow t r) l := by
  have e : ids (iblk2 V c 0 t : IVec S256x3 32) r = ids (V c main_arg11 : IVec S4096x3 32) (gRow t r) :=
    funext fun p => congrArg BitVec.toNat (blk2_0 V c t r p)
  refine (pred_apply (iblk2 V c 0 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) r (fun p => by rw [e]; exact hT _ p) l).trans ?_
  rw [e, blk2_2, blk2_3, blk2_4, blk2_5, blk2_6, blk2_7, blk2_8, blk2_9, blk2_10, blk2_11]
  rfl

/-- The padded predictions, as the launch's first result. -/
def predT (q : Fin 4096 → Fin 128 → EReal) : FVec Ideal S4096x128 .f32 := fun i => q (i 0) (i 1)

/-- The blocks' shares of the loss, as the launch's second result. -/
def shareT (q : Fin 4096 → Fin 128 → EReal) (lab : IVec S4096x1 32) : FVec Ideal S16x1x1 .f32 := fun i =>
  (∑ r : Fin 256, laneLoss (q (gRow (i 0) r)) (lab (ix2 (gRow (i 0) r) 0)).toNat) * ((1 / 4096 : ℝ) : EReal)

/-- If every block's predictions are its rows of `q`, the launch leaves `q`. -/
theorem pred_arr_of (c : Dev nD) (q : Fin 4096 → Fin 128 → EReal)
    (hq : ∀ (t : Fin cfg2.N) (r : Fin 256) (l : Fin 128), k2_pay3 (F := Ideal) (k2_pay2 (iblk2 V c 0 t) (iblk2 V c 2 t) (iblk2 V c 3 t) (iblk2 V c 4 t) (iblk2 V c 5 t)) (iblk2 V c 6 t)
      (iblk2 V c 7 t) (iblk2 V c 8 t) (iblk2 V c 9 t) (iblk2 V c 10 t) (iblk2 V c 11 t) (ix2 r l) = q (gRow t r) l) :
    (dat2 V c).arrAt 12 cfg2.N = predT q := by
  refine (dat2 V c).arrAt_eq_of_covers 12 _ (by decide +kernel) fun t hf y => ?_
  blk_simp
  rw [after2_12]
  unfold outsAt2
  dsimp only
  frame_out
  obtain ⟨r, l, rfl⟩ : ∃ (r : Fin 256) (l : Fin 128), y = ix2 r l := ⟨y 0, y 1, by
    funext a
    match a with
    | ⟨0, _⟩ => rfl
    | ⟨1, _⟩ => rfl⟩
  refine (hq t r l).trans ?_
  refine congrArg₂ q (Fin.ext ?_) (Fin.ext ?_)
  · blk_simp [idx2_12]
  · blk_simp [idx2_12]

/-- And the blocks' shares of the loss over `q`. -/
theorem share_arr_of (c : Dev nD) (q : Fin 4096 → Fin 128 → EReal)
    (hq : ∀ (t : Fin cfg2.N) (r : Fin 256) (l : Fin 128), k2_pay3 (F := Ideal) (k2_pay2 (iblk2 V c 0 t) (iblk2 V c 2 t) (iblk2 V c 3 t) (iblk2 V c 4 t) (iblk2 V c 5 t)) (iblk2 V c 6 t)
      (iblk2 V c 7 t) (iblk2 V c 8 t) (iblk2 V c 9 t) (iblk2 V c 10 t) (iblk2 V c 11 t) (ix2 r l) = q (gRow t r) l) :
    (dat2 V c).arrAt 13 cfg2.N = shareT q (V c main_call0_v15) := by
  refine (dat2 V c).arrAt_eq_of_covers 13 _ (by decide +kernel) fun t hf y => ?_
  blk_simp
  rw [after2_13]
  unfold outsAt2
  dsimp only
  frame_out
  refine (share_apply _ (iblk2 V c 6 t) (iblk2 V c 7 t) (iblk2 V c 8 t) (iblk2 V c 9 t) (iblk2 V c 10 t) (iblk2 V c 11 t)
    (iblk2 V c 1 t)).trans ?_
  unfold shareT
  refine congrArg (· * _) (Finset.sum_congr rfl fun r _ => ?_)
  have ht : (((cfg2.win 13).blk t).view.emb y 0 : Fin 16).val = t.val := by blk_simp [idx2_13]
  have hg : gRow t r = gRow (((cfg2.win 13).blk t).view.emb y 0) r := Fin.ext (by
    change t.val * 256 + r.val = (((cfg2.win 13).blk t).view.emb y 0 : Fin 16).val * 256 + r.val
    rw [ht])
  rw [← hg]
  refine congrArg₂ laneLoss (funext fun l => hq t r l) (congrArg BitVec.toNat (blk2_1 V c t r))

/-- The main launch leaves the padded predictions, for ids below 101. -/
theorem pred_arr (c : Dev nD) (hT : ∀ g p, ids (V c main_arg11 : IVec S4096x3 32) g p < 101) :
    (dat2 V c).arrAt 12 cfg2.N = predT (padRowV V c) :=
  pred_arr_of V c _ (blk_pred V c hT)

/-- The main launch leaves the blocks' shares of the loss, for ids below 101. -/
theorem share_arr (c : Dev nD) (hT : ∀ g p, ids (V c main_arg11 : IVec S4096x3 32) g p < 101) :
    (dat2 V c).arrAt 13 cfg2.N = shareT (padRowV V c) (V c main_call0_v15) :=
  share_arr_of V c _ (blk_pred V c hT)

end Cert.K01
-- ==== Proof.Scatter.lean ====
/-
  Writing a block into a larger array at coordinate zero: what the padded array holds at each index.
-/
module

public import proofs.«01_k».proof.Proof.Gen.KernelIdeal.Launch
public import proofs.«01_k».proof.Proof.Payload
public import Idealize.ShloMosaic.Lib.Routing.OpsSet
public import Idealize.ShloMosaic.Lib.Routing.OpsPair

@[expose] public section

noncomputable section

namespace Cert.K01

open Idealize.ShloMosaic Idealize.ShloMosaic.Routing
open Cert.KernelIdeal

/-- With index words all zero every window starts at coordinate 0. -/
theorem start_zero {s si u : Shape} (d : ScatterDims s si u) (k : u.Idx) (idx : IVec si 32) (h0 : ∀ i, idx i = 0#32) (a : Fin s.rank) :
    d.start k idx a = 0 := by
  unfold ScatterDims.start
  split
  · rw [h0]; rfl
  · rfl

/-- With index words all zero an update lands where its window coordinates say. -/
theorem lands_zero {s si u : Shape} (d : ScatterDims s si u) (k : u.Idx) (idx : IVec si 32) (h0 : ∀ i, idx i = 0#32) (i : s.Idx) :
    d.resultIdx? k idx = some i ↔ ∀ a, d.window k a = (i a).val := by
  rw [resultIdx?_eq_some]
  exact forall_congr' fun a => by rw [start_zero d k idx h0 a]; omega

/-- Rows of the embedding table inside the padded table. -/
theorem embed_rows (x0 : FVec Ideal S128x2048 .f32) (idx : IVec S1 32) (h0 : ∀ i, idx i = 0#32) (e : FVec Ideal S101x2048 .f32)
    (r : Fin 101) (k : Fin 2048) :
    Host.scatter scatter_S128x2048_S1_S101x2048_01_n_0_0 (fun _ b => b) x0 idx e (ix2 ⟨r.val, by omega⟩ k) = e (ix2 r k) := by
  have w0 : ∀ q : S101x2048.Idx, scatter_S128x2048_S1_S101x2048_01_n_0_0.window q 0 = (q 0).val := fun q => rfl
  have w1 : ∀ q : S101x2048.Idx, scatter_S128x2048_S1_S101x2048_01_n_0_0.window q 1 = (q 1).val := fun q => rfl
  refine scatter_set_hit _ _ _ _ _ _ (fun q hq => congrArg e ?_) (ix2 r k) ?_
  · rw [lands_zero _ _ _ h0] at hq
    funext a
    apply Fin.ext
    match a with
    | ⟨0, _⟩ => exact (w0 q).symm.trans (hq 0)
    | ⟨1, _⟩ => exact (w1 q).symm.trans (hq 1)
  · rw [lands_zero _ _ _ h0]
    intro a
    match a with
    | ⟨0, _⟩ => exact w0 _
    | ⟨1, _⟩ => exact w1 _

/-- The columns of the last weight inside the padded weight. -/
theorem last_cols (x0 : FVec Ideal S2048x128 .f32) (idx : IVec S1 32) (h0 : ∀ i, idx i = 0#32) (e : FVec Ideal S2048x5 .f32)
    (k : Fin 2048) (l : Fin 5) :
    Host.scatter scatter_S2048x128_S1_S2048x5_01_n_1_0 (fun _ b => b) x0 idx e (ix2 k ⟨l.val, by omega⟩) = e (ix2 k l) := by
  have w0 : ∀ q : S2048x5.Idx, scatter_S2048x128_S1_S2048x5_01_n_1_0.window q 0 = (q 0).val := fun q => rfl
  have w1 : ∀ q : S2048x5.Idx, scatter_S2048x128_S1_S2048x5_01_n_1_0.window q 1 = (q 1).val := fun q => rfl
  refine scatter_set_hit _ _ _ _ _ _ (fun q hq => congrArg e ?_) (ix2 k l) ?_
  · rw [lands_zero _ _ _ h0] at hq
    funext a
    apply Fin.ext
    match a with
    | ⟨0, _⟩ => exact (w0 q).symm.trans (hq 0)
    | ⟨1, _⟩ => exact (w1 q).symm.trans (hq 1)
  · rw [lands_zero _ _ _ h0]
    intro a
    match a with
    | ⟨0, _⟩ => exact w0 _
    | ⟨1, _⟩ => exact w1 _

/-- Columns past the last weight keep what the padded weight held before. -/
theorem last_cols_pad (x0 : FVec Ideal S2048x128 .f32) (idx : IVec S1 32) (h0 : ∀ i, idx i = 0#32) (e : FVec Ideal S2048x5 .f32)
    (k : Fin 2048) (l : Fin 128) (hl : 5 ≤ l.val) :
    Host.scatter scatter_S2048x128_S1_S2048x5_01_n_1_0 (fun _ b => b) x0 idx e (ix2 k l) = x0 (ix2 k l) := by
  have w1 : ∀ q : S2048x5.Idx, scatter_S2048x128_S1_S2048x5_01_n_1_0.window q 1 = (q 1).val := fun q => rfl
  refine scatter_set_miss _ _ _ _ _ fun q hq => ?_
  rw [lands_zero _ _ _ h0] at hq
  have h := (w1 q).symm.trans (hq 1)
  have hlt : (q 1).val < 5 := (q 1).isLt
  have hv : (q 1).val = l.val := h
  omega

/-- The entries of the last bias inside the padded bias. -/
theorem bias_cols (x0 : FVec Ideal S1x128 .f32) (idx : IVec S2 32) (h0 : ∀ i, idx i = 0#32) (e : FVec Ideal S5 .f32) (l : Fin 5) :
    Host.scatter scatter_S1x128_S2_S5_0_0_01_0 (fun _ b => b) x0 idx e (ix2 0 ⟨l.val, by omega⟩) = e (ix1 l) := by
  have w0 : ∀ q : S5.Idx, scatter_S1x128_S2_S5_0_0_01_0.window q 0 = 0 := fun q => rfl
  have w1 : ∀ q : S5.Idx, scatter_S1x128_S2_S5_0_0_01_0.window q 1 = (q 0).val := fun q => rfl
  refine scatter_set_hit _ _ _ _ _ _ (fun q hq => congrArg e ?_) (ix1 l) ?_
  · rw [lands_zero _ _ _ h0] at hq
    funext a
    apply Fin.ext
    match a with
    | ⟨0, _⟩ => exact (w1 q).symm.trans (hq 1)
  · rw [lands_zero _ _ _ h0]
    intro a
    match a with
    | ⟨0, _⟩ => exact w0 _
    | ⟨1, _⟩ => exact w1 _

end Cert.K01
-- ==== Proof.HostOps.lean ====
/-
  What the kernel's host operations between its launches leave: padding, reshapes, the final slice and sum.
-/
module

public import proofs.«01_k».proof.Proof.Gen.KernelIdeal.Launch
public import proofs.«01_k».proof.Proof.Scatter
public import Idealize.ShloMosaic.Lib.StableHlo.ReadAt
public import Idealize.ShloMosaic.Lib.Claim

@[expose] public section

set_option maxRecDepth 16384

noncomputable section

namespace Cert.K01

open Idealize.ShloMosaic Idealize.ShloMosaic.TcCoe
open Cert.KernelIdeal Cert.KernelIdeal.Gen

variable (W : Valuation τ sig (Elt Ideal))

/-- Inside the table's 101 rows the padded table is the table. -/
theorem ops0_v2 (r : Fin 101) (k : Fin 2048) :
    (StableHlo.after hostOps0 W (Proc.devRef .tc main_call0_v2) : FVec Ideal S128x2048 .f32) (ix2 ⟨r.val, by omega⟩ k)
      = (W (Proc.devRef .tc main_arg0) : FVec Ideal S101x2048 .f32) (ix2 r k) := by
  after_reads_at
  exact embed_rows _ _ (fun _ => rfl) _ r k

/-- The first weight cut into three slabs of 2048 rows, one for each looked-up row. -/
theorem ops0_v3 (p : Fin 3) (k l : Fin 2048) :
    (StableHlo.after hostOps0 W (Proc.devRef .tc main_call0_v3) : FVec Ideal S3x2048x2048 .f32) (ix3 p k l)
      = (W (Proc.devRef .tc main_arg1) : FVec Ideal S6144x2048 .f32) (ix2 ⟨p.val * 2048 + k.val, by omega⟩ l) := by
  after_reads_at

/-- The three folded tables stacked: row `128 p + t` is row `t` of table `p`. -/
theorem ops1_v5 (r : Fin 384) (k : Fin 2048) :
    (StableHlo.after hostOps1 W (Proc.devRef .tc main_call0_v5) : FVec Ideal S384x2048 .f32) (ix2 r k)
      = (W (Proc.devRef .tc main_call0_v4) : FVec Ideal S3x128x2048 .f32) (ix3 ⟨r.val / 128, by omega⟩ ⟨r.val % 128, by omega⟩ k) := by
  after_reads_at

/-- The padded last weight: the weight in its first five columns. -/
theorem ops1_v8 (k : Fin 2048) (l : Fin 5) :
    (StableHlo.after hostOps1 W (Proc.devRef .tc main_call0_v8) : FVec Ideal S2048x128 .f32) (ix2 k ⟨l.val, by omega⟩)
      = (W (Proc.devRef .tc main_arg9) : FVec Ideal S2048x5 .f32) (ix2 k l) := by
  after_reads_at
  exact last_cols _ _ (fun _ => rfl) _ k l

/-- The padded last weight: zero past its first five columns. -/
theorem ops1_v8_pad (k : Fin 2048) (l : Fin 128) (hl : 5 ≤ l.val) :
    (StableHlo.after hostOps1 W (Proc.devRef .tc main_call0_v8) : FVec Ideal S2048x128 .f32) (ix2 k l) = (0 : EReal) := by
  after_reads_at
  refine (last_cols_pad _ _ (fun _ => rfl) _ k l hl).trans ?_
  show Ideal.ofBits .f32 0#32 = (0 : EReal)
  simp

/-- The padded last bias: the bias in its first five entries. -/
theorem ops1_v13 (l : Fin 5) :
    (StableHlo.after hostOps1 W (Proc.devRef .tc main_call0_v13) : FVec Ideal S1x128 .f32) (ix2 0 ⟨l.val, by omega⟩)
      = (W (Proc.devRef .tc main_arg10) : FVec Ideal S5 .f32) (ix1 l) := by
  after_reads_at
  refine bias_cols _ _ (fun i => ?_) _ l
  rw [eq_ix1 i]
  generalize (i 0) = a
  pointwise
  split
  · after_reads_at
  · after_reads_at

/-- The labels as a column. -/
theorem ops2_v15 (g : Fin 4096) :
    (StableHlo.after hostOps2 W (Proc.devRef .tc main_call0_v15) : IVec S4096x1 32) (ix2 g 0)
      = (W (Proc.devRef .tc main_arg12) : IVec S4096 32) (ix1 g) := by
  after_reads_at

/-- A bias as a one-row matrix. -/
theorem ops2_v16 (l : Fin 2048) :
    (StableHlo.after hostOps2 W (Proc.devRef .tc main_call0_v16) : FVec Ideal S1x2048 .f32) (ix2 0 l)
      = (W (Proc.devRef .tc main_arg2) : FVec Ideal S2048 .f32) (ix1 l) := by
  after_reads_at

/-- A bias as a one-row matrix. -/
theorem ops2_v17 (l : Fin 2048) :
    (StableHlo.after hostOps2 W (Proc.devRef .tc main_call0_v17) : FVec Ideal S1x2048 .f32) (ix2 0 l)
      = (W (Proc.devRef .tc main_arg4) : FVec Ideal S2048 .f32) (ix1 l) := by
  after_reads_at

/-- A bias as a one-row matrix. -/
theorem ops2_v18 (l : Fin 2048) :
    (StableHlo.after hostOps2 W (Proc.devRef .tc main_call0_v18) : FVec Ideal S1x2048 .f32) (ix2 0 l)
      = (W (Proc.devRef .tc main_arg6) : FVec Ideal S2048 .f32) (ix1 l) := by
  after_reads_at

/-- A bias as a one-row matrix. -/
theorem ops2_v19 (l : Fin 2048) :
    (StableHlo.after hostOps2 W (Proc.devRef .tc main_call0_v19) : FVec Ideal S1x2048 .f32) (ix2 0 l)
      = (W (Proc.devRef .tc main_arg8) : FVec Ideal S2048 .f32) (ix1 l) := by
  after_reads_at

/-- The first result: the first five lanes of the padded predictions. -/
theorem ops3_v0 (g : Fin 4096) (j : Fin 5) :
    (StableHlo.after hostOps3 W (Proc.devRef .tc main_v0_0) : FVec Ideal S4096x5 .f32) (ix2 g j)
      = (W (Proc.devRef .tc main_call0_v20_0) : FVec Ideal S4096x128 .f32) (ix2 g ⟨j.val, by omega⟩) := by
  after_reads_at

/-- The second result: the sum of the blocks' shares. -/
theorem ops3_v1 :
    (StableHlo.after hostOps3 W (Proc.devRef .tc main_v0_1) : FVec Ideal S_ .f32) ix0
      = (∑ t : Fin 16, ((W (Proc.devRef .tc main_call0_v20_1) : FVec Ideal S16x1x1 .f32) (ix3 t 0 0) : EReal) : EReal) := by
  after_reads_at
  simp
  try rfl

end Cert.K01
-- ==== Proof.Kernel.lean ====
/-
  What the kernel's whole run leaves in its two results, in terms of its arguments.
-/
module

public import proofs.«01_k».proof.Proof.KernelRun
public import proofs.«01_k».proof.Proof.Regions
public import proofs.«01_k».proof.Proof.Mlp
public import proofs.«01_k».proof.Proof.HostOps

@[expose] public section

set_option maxRecDepth 16384

noncomputable section

namespace Cert.K01

open Idealize.ShloMosaic Idealize.ShloMosaic.TcCoe
open Cert.KernelIdeal Cert.KernelIdeal.Gen

/-- Table row `a` through slot `p`'s rows of the first weight. -/
def slotSum (x0 : FVec Ideal S101x2048 .f32) (x1 : FVec Ideal S6144x2048 .f32) (p : Fin 3) (a : Fin 101) (l : Fin 2048) : EReal :=
  ∑ k : Fin 2048, x0 (ix2 a k) * x1 (ix2 ⟨p.val * 2048 + k.val, by omega⟩ l)

section
variable {x0 : FVec Ideal S101x2048 .f32} {x1 : FVec Ideal S6144x2048 .f32} {x2 x4 x6 x8 : FVec Ideal S2048 .f32}
  {x3 x5 x7 : FVec Ideal S2048x2048 .f32} {x9 : FVec Ideal S2048x5 .f32} {x10 : FVec Ideal S5 .f32}
  {T : IVec S4096x3 32} {M : FVec Ideal S384x2048 .f32} {b0 b1 b2 b3 : FVec Ideal S1x2048 .f32}
  {W4 : FVec Ideal S2048x128 .f32} {b4 : FVec Ideal S1x128 .f32}

/-- On the first five lanes the kernel's padded row is the prediction, when its operands are the arguments' folded and padded
    forms. -/
theorem padRow_lane (hT : ∀ g p, (T (ix2 g p)).toNat < 101)
    (hM : ∀ (p : Fin 3) (a : Fin 101) (l : Fin 2048), M (ix2 ⟨p.val * 128 + a.val, by omega⟩ l)
      = slotSum x0 x1 p a l)
    (h0 : ∀ l, b0 (ix2 0 l) = x2 (ix1 l)) (h1 : ∀ l, b1 (ix2 0 l) = x4 (ix1 l))
    (h2 : ∀ l, b2 (ix2 0 l) = x6 (ix1 l)) (h3 : ∀ l, b3 (ix2 0 l) = x8 (ix1 l))
    (hW : ∀ k (l : Fin 5), W4 (ix2 k ⟨l.val, by omega⟩) = x9 (ix2 k l))
    (hb : ∀ l : Fin 5, b4 (ix2 0 ⟨l.val, by omega⟩) = x10 (ix1 l)) (g : Fin 4096) (j : Fin 5) :
    padRow T M b0 x3 b1 x5 b2 x7 b3 W4 b4 g ⟨j.val, by omega⟩
      = predRow (fun a k => x0 (ix2 a k)) (fun p => ⟨(T (ix2 g p)).toNat, hT g p⟩) (fun k l => x1 (ix2 k l)) (fun l => x2 (ix1 l))
          (fun k l => x3 (ix2 k l)) (fun l => x4 (ix1 l)) (fun k l => x5 (ix2 k l)) (fun l => x6 (ix1 l))
          (fun k l => x7 (ix2 k l)) (fun l => x8 (ix1 l)) (fun k l => x9 (ix2 k l)) (fun l => x10 (ix1 l)) j := by
  have e0 : row0 b0 = fun l => x2 (ix1 l) := funext h0
  have e1 : row0 b1 = fun l => x4 (ix1 l) := funext h1
  have e2 : row0 b2 = fun l => x6 (ix1 l) := funext h2
  have e3 : row0 b3 = fun l => x8 (ix1 l) := funext h3
  have ef : first (ids T g) (mat M) (fun l => x2 (ix1 l)) = _ :=
    first_eq_dense (fun a k => x0 (ix2 a k)) (fun p => ⟨(T (ix2 g p)).toNat, hT g p⟩) (fun k l => x1 (ix2 k l)) (fun l => x2 (ix1 l))
      (mat M) hM
  unfold padRow predRow mlp
  rw [e0, e1, e2, e3, ef]
  exact congrArg₂ (· + ·) (Finset.sum_congr rfl fun k _ => congrArg (_ * ·) (hW k j)) (hb j)

/-- On a lane past the fifth the padded row is the mask: a zero column of the weight, and the mask as bias. -/
theorem padRow_pad (l : Fin 128) (hW : ∀ k, W4 (ix2 k l) = (0 : EReal)) (hb : b4 (ix2 0 l) = (⊥ : EReal)) (g : Fin 4096) :
    padRow T M b0 x3 b1 x5 b2 x7 b3 W4 b4 g l = ⊥ := by
  unfold padRow mlp
  show (∑ k, _ * W4 (ix2 k l)) + b4 (ix2 0 l) = _
  rw [hb, EReal.add_bot]

end

/-- An entry of the folded table, of tables that hold the arguments. -/
theorem foldT_entry (x0 : FVec Ideal S101x2048 .f32) (x1 : FVec Ideal S6144x2048 .f32) (E : FVec Ideal S128x2048 .f32)
    (W : FVec Ideal S3x2048x2048 .f32) (hE : ∀ (r : Fin 101) k, E (ix2 ⟨r.val, by omega⟩ k) = x0 (ix2 r k))
    (hW : ∀ (p : Fin 3) (k l : Fin 2048), W (ix3 p k l) = x1 (ix2 ⟨p.val * 2048 + k.val, by omega⟩ l))
    (p : Fin 3) (a : Fin 101) (l : Fin 2048) (p' : Fin 3) (a' : Fin 128) (hp : p'.val = p.val) (ha : a'.val = a.val) :
    foldT E W (ix3 p' a' l) = slotSum x0 x1 p a l := by
  have ep : p' = p := Fin.ext hp
  have ea : a' = ⟨a.val, by omega⟩ := Fin.ext ha
  rw [ep, ea]
  exact Finset.sum_congr rfl fun k _ => congrArg₂ (· * ·) (hE a k) (hW p k l)

/-- A launch's sixteen shares sum to the mean of the rows' cross-entropies. -/
theorem sum_shareT (q : Fin 4096 → Fin 128 → EReal) (p : Fin 4096 → Fin 5 → EReal) (lab : IVec S4096x1 32) (y : IVec S4096 32)
    (hq : ∀ g (l : Fin 5), q g ⟨l.val, by omega⟩ = p g l) (hb : ∀ g (l : Fin 128), 5 ≤ l.val → q g l = ⊥)
    (hl : ∀ g, lab (ix2 g 0) = y (ix1 g)) (hR : ∀ g l, IsReal (p g l)) (hY : ∀ g, (y (ix1 g)).toNat < 5) :
    (∑ t : Fin 16, (shareT q lab (ix3 t 0 0) : EReal))
      = (∑ g, rowLoss (p g) ⟨(y (ix1 g)).toNat, hY g⟩) * ((1 / 4096 : ℝ) : EReal) := by
  refine Eq.trans ?_ (mean_blocks _ fun g => IsReal.rowLoss (hR g) _)
  refine Finset.sum_congr rfl fun t _ => ?_
  refine congrArg (· * _) (Finset.sum_congr rfl fun r _ => ?_)
  refine (congrArg (fun w : BitVec 32 => laneLoss (q (gRow t r)) w.toNat) (hl _)).trans ?_
  exact rowLoss_pad (by omega) (hq _) (hb _) ⟨_, hY (gRow t r)⟩

variable (m : (ℓ : Loc nD τ sig) → Buf (Elt Ideal) ℓ) (ρ : Dev nD → PrngReg) (c : Dev nD)

/-- The folded table the main launch finds: row `128 p + a` is table row `a` through slot `p`'s rows of the first weight. -/
theorem table_entry (p : Fin 3) (a : Fin 101) (l : Fin 2048) :
    (V5 m ρ c main_call0_v5 : FVec Ideal S384x2048 .f32) (ix2 ⟨p.val * 128 + a.val, by omega⟩ l)
      = slotSum (m ((c : Thread nD τ).loc main_arg0)) (m ((c : Thread nD τ).loc main_arg1)) p a l := by
  refine (congrFun ((W5_of m ρ c main_call0_v5 (by decide)).trans (W4_of m ρ c main_call0_v5 (by decide))) _).trans ?_
  refine (ops1_v5 (W2 m ρ c) _ _).trans ?_
  refine (congrFun ((W2_arr m ρ c 2).trans (fold_arr (V1 m ρ) c)) _).trans ?_
  refine foldT_entry _ _ _ _ (ops0_v2 (W0 m ρ c)) (ops0_v3 (W0 m ρ c)) p a l _ _ ?_ ?_
  · show (p.val * 128 + a.val) / 128 = p.val
    omega
  · show (p.val * 128 + a.val) % 128 = a.val
    omega

/-- The last weight the main launch finds is what the second host stretch left. -/
theorem last_kept : W5 m ρ c (Proc.devRef .tc main_call0_v8) = W3 m ρ c (Proc.devRef .tc main_call0_v8) :=
  (W5_of m ρ c main_call0_v8 (by decide)).trans (W4_of m ρ c main_call0_v8 (by decide))

/-- The padded bias the main launch finds is what the second launch left. -/
theorem bias_kept : (V5 m ρ c main_call0_v14 : FVec Ideal S1x128 .f32) = biasT (V3 m ρ c main_call0_v13) :=
  (W5_of m ρ c main_call0_v14 (by decide)).trans ((W4_arr m ρ c 1).trans (bias_arr (V3 m ρ) c))

variable (hT : ∀ g p, ((m ((c : Thread nD τ).loc main_arg11) : IVec S4096x3 32) (ix2 g p)).toNat < 101)

/-- The prediction of row `g`, of the arguments. -/
def rowOf (g : Fin 4096) : Fin 5 → EReal :=
  predRow (fun a k => (m ((c : Thread nD τ).loc main_arg0) : FVec Ideal S101x2048 .f32) (ix2 a k))
    (fun p => ⟨((m ((c : Thread nD τ).loc main_arg11) : IVec S4096x3 32) (ix2 g p)).toNat, hT g p⟩)
    (fun k l => (m ((c : Thread nD τ).loc main_arg1) : FVec Ideal S6144x2048 .f32) (ix2 k l))
    (fun l => (m ((c : Thread nD τ).loc main_arg2) : FVec Ideal S2048 .f32) (ix1 l))
    (fun k l => (m ((c : Thread nD τ).loc main_arg3) : FVec Ideal S2048x2048 .f32) (ix2 k l))
    (fun l => (m ((c : Thread nD τ).loc main_arg4) : FVec Ideal S2048 .f32) (ix1 l))
    (fun k l => (m ((c : Thread nD τ).loc main_arg5) : FVec Ideal S2048x2048 .f32) (ix2 k l))
    (fun l => (m ((c : Thread nD τ).loc main_arg6) : FVec Ideal S2048 .f32) (ix1 l))
    (fun k l => (m ((c : Thread nD τ).loc main_arg7) : FVec Ideal S2048x2048 .f32) (ix2 k l))
    (fun l => (m ((c : Thread nD τ).loc main_arg8) : FVec Ideal S2048 .f32) (ix1 l))
    (fun k l => (m ((c : Thread nD τ).loc main_arg9) : FVec Ideal S2048x5 .f32) (ix2 k l))
    (fun l => (m ((c : Thread nD τ).loc main_arg10) : FVec Ideal S5 .f32) (ix1 l))

include hT in
/-- The ids the main launch finds are the argument's. -/
theorem ids_kept (g : Fin 4096) (p : Fin 3) : ids (V5 m ρ c main_arg11 : IVec S4096x3 32) g p < 101 :=
  lt_of_eq_of_lt (congrArg BitVec.toNat (congrFun (W5_args m ρ c main_arg11 (by decide)) (ix2 g p))) (hT g p)

/-- The main launch's padded rows are the predictions on the first five lanes. -/
theorem padRowV_lane (g : Fin 4096) (j : Fin 5) : padRowV (V5 m ρ) c g ⟨j.val, by omega⟩ = rowOf m c hT g j := by
  have a11 := W5_args m ρ c main_arg11 (by decide)
  have a3 := W5_args m ρ c main_arg3 (by decide)
  have a5 := W5_args m ρ c main_arg5 (by decide)
  have a7 := W5_args m ρ c main_arg7 (by decide)
  have e : padRowV (V5 m ρ) c = padRow (m ((c : Thread nD τ).loc main_arg11)) (V5 m ρ c main_call0_v5) (V5 m ρ c main_call0_v16)
      (m ((c : Thread nD τ).loc main_arg3)) (V5 m ρ c main_call0_v17) (m ((c : Thread nD τ).loc main_arg5)) (V5 m ρ c main_call0_v18)
      (m ((c : Thread nD τ).loc main_arg7)) (V5 m ρ c main_call0_v19) (V5 m ρ c main_call0_v8) (V5 m ρ c main_call0_v14) := by
    unfold padRowV
    rw [← a11, ← a3, ← a5, ← a7]
  rw [e]
  refine padRow_lane hT (table_entry m ρ c) ?_ ?_ ?_ ?_ ?_ ?_ g j
  · exact fun l => (ops2_v16 (W4 m ρ c) l).trans (congrFun (W4_args m ρ c main_arg2 (by decide)) _)
  · exact fun l => (ops2_v17 (W4 m ρ c) l).trans (congrFun (W4_args m ρ c main_arg4 (by decide)) _)
  · exact fun l => (ops2_v18 (W4 m ρ c) l).trans (congrFun (W4_args m ρ c main_arg6 (by decide)) _)
  · exact fun l => (ops2_v19 (W4 m ρ c) l).trans (congrFun (W4_args m ρ c main_arg8 (by decide)) _)
  · exact fun k l => (congrFun (last_kept m ρ c) _).trans ((ops1_v8 (W2 m ρ c) k l).trans (congrFun (W2_args m ρ c main_arg9 (by decide)) _))
  · intro l
    refine (congrFun (bias_kept m ρ c) _).trans ?_
    refine (if_pos l.isLt).trans ?_
    exact (ops1_v13 (W2 m ρ c) l).trans (congrFun (W2_args m ρ c main_arg10 (by decide)) _)

/-- The main launch's padded rows are the mask on the other lanes. -/
theorem padRowV_pad (g : Fin 4096) (l : Fin 128) (hl : 5 ≤ l.val) : padRowV (V5 m ρ) c g l = ⊥ := by
  refine padRow_pad l (fun k => ?_) ?_ g
  · exact (congrFun (last_kept m ρ c) _).trans (ops1_v8_pad (W2 m ρ c) k l hl)
  · exact (congrFun (bias_kept m ρ c) _).trans (if_neg (by show ¬ l.val < 5; omega))

/-- The first result holds the predictions. -/
theorem result_pred (g : Fin 4096) (j : Fin 5) :
    (W7 m ρ c (Proc.devRef .tc main_v0_0) : FVec Ideal S4096x5 .f32) (ix2 g j) = rowOf m c hT g j := by
  refine (ops3_v0 (W6 m ρ c) g j).trans ?_
  refine (congrFun ((W6_arr m ρ c 12).trans (pred_arr (V5 m ρ) c (ids_kept m ρ c hT))) _).trans ?_
  exact padRowV_lane m ρ c hT g j

/-- The second result is the mean of the rows' cross-entropies, when the predictions are real numbers and the labels are
    classes. -/
theorem result_loss (hR : ∀ g l, IsReal (rowOf m c hT g l))
    (hY : ∀ g, ((m ((c : Thread nD τ).loc main_arg12) : IVec S4096 32) (ix1 g)).toNat < 5) :
    (W7 m ρ c (Proc.devRef .tc main_v0_1) : FVec Ideal S_ .f32) ix0
      = (∑ g, rowLoss (rowOf m c hT g) ⟨((m ((c : Thread nD τ).loc main_arg12) : IVec S4096 32) (ix1 g)).toNat, hY g⟩)
          * ((1 / 4096 : ℝ) : EReal) := by
  refine (ops3_v1 (W6 m ρ c)).trans ?_
  have e := (W6_arr m ρ c 13).trans (share_arr (V5 m ρ) c (ids_kept m ρ c hT))
  refine Eq.trans ?_ (sum_shareT (padRowV (V5 m ρ) c) (rowOf m c hT) (V5 m ρ c main_call0_v15) (m ((c : Thread nD τ).loc main_arg12))
    (padRowV_lane m ρ c hT) (padRowV_pad m ρ c)
    (fun g => (ops2_v15 (W4 m ρ c) g).trans (congrFun (W4_args m ρ c main_arg12 (by decide)) _)) hR hY)
  exact congrArg (fun f : FVec Ideal S16x1x1 .f32 => ∑ t : Fin 16, (f (ix3 t 0 0) : EReal)) e

end Cert.K01
-- ==== Proof.Reference.lean ====
/-
  What the reference computes, read at an index: the predictions of each row, and the mean cross-entropy.
-/
module

public import proofs.«01_k».proof.Proof.Gen.ReferenceIdeal.Run
public import proofs.«01_k».proof.Proof.Spec
public import Idealize.ShloMosaic.Lib.Routing.OpsPair
public import Idealize.ShloMosaic.Lib.ReduceAll
public import Idealize.ShloMosaic.Lib.WordCmp

@[expose] public section

set_option maxRecDepth 16384

noncomputable section

namespace Cert.K01.Ref

open Idealize.ShloMosaic Idealize.ShloMosaic.TcCoe
open Cert.ReferenceIdeal Cert.ReferenceIdeal.Gen

/-! ### The stages of the computation -/

/-- The table's row numbers, a negative one counted from the end. -/
def wrapT (x11 : IVec S4096x3 32) : IVec S4096x3x1 32 :=
  broadcastInDim S4096x3x1 ![0, 1] bcast_S4096x3_S4096x3x1_0_1 (select (cmpi .slt x11 (broadcastInDim S4096x3 ![] bcast_S_S4096x3 (constantI S_ 32 0#32))) (addi x11 (broadcastInDim S4096x3 ![] bcast_S_S4096x3 (constantI S_ 32 101#32))) x11)

/-- Which row numbers lie in the table. -/
def inT (x11 : IVec S4096x3 32) : IVec S4096x3 1 :=
  Host.reduce IntOp.andi (andi (cmpi .sge (wrapT x11) (broadcastInDim S4096x3x1 ![] bcast_S_S4096x3x1 (constantI S_ 32 0#32))) (cmpi .sle (wrapT x11) (broadcastInDim S4096x3x1 ![0, 1, 2] bcast_S1x1x1_S4096x3x1_0_1_2 (broadcastInDim S1x1x1 ![2] bcast_S1_S1x1x1_2 (constantI S1 32 100#32))))) (constantI S_ 1 1#1) reducesTo_S4096x3x1_S4096x3_d2 h_S_

/-- The looked-up table rows. -/
def takeRows (x0 : FVec Ideal S101x2048 .f32) (x11 : IVec S4096x3 32) : FVec Ideal S4096x3x2048 .f32 :=
  select (broadcastInDim S4096x3x2048 ![0, 1] bcast_S4096x3_S4096x3x2048_0_1 (inT x11)) (Host.gather gather_S101x2048_S4096x3x1_S4096x3x2048_2_0_n_n_0_2_12048 x0 (wrapT x11)) (broadcastInDim S4096x3x2048 ![] bcast_S_S4096x3x2048 (constant S_ .f32 0x7FC00000#32))

/-- The first layer and its rectifier. -/
def layer0 (x0 : FVec Ideal S101x2048 .f32) (x11 : IVec S4096x3 32) (x1 : FVec Ideal S6144x2048 .f32) (x2 : FVec Ideal S2048 .f32) :
    FVec Ideal S4096x2048 .f32 :=
  maximumf (addf (Host.dotGeneral dot_S4096x6144_S6144x2048_S4096x2048_1_0_0_1_n_n none (shapeCast _ (takeRows x0 x11) shapeCasts_S4096x3x2048_S4096x6144) x1) (broadcastInDim S4096x2048 ![0, 1] bcast_S1x2048_S4096x2048_0_1 (broadcastInDim S1x2048 ![1] bcast_S2048_S1x2048_1 x2))) (broadcastInDim S4096x2048 ![] bcast_S_S4096x2048 (constant S_ .f32 0x00000000#32))

/-- A hidden layer and its rectifier. -/
def layer (h : FVec Ideal S4096x2048 .f32) (W : FVec Ideal S2048x2048 .f32) (b : FVec Ideal S2048 .f32) :
    FVec Ideal S4096x2048 .f32 :=
  maximumf (addf (Host.dotGeneral dot_S4096x2048_S2048x2048_S4096x2048_1_0_0_1_n_n none h W) (broadcastInDim S4096x2048 ![0, 1] bcast_S1x2048_S4096x2048_0_1 (broadcastInDim S1x2048 ![1] bcast_S2048_S1x2048_1 b))) (broadcastInDim S4096x2048 ![] bcast_S_S4096x2048 (constant S_ .f32 0x00000000#32))

/-- The output layer. -/
def outLayer (h : FVec Ideal S4096x2048 .f32) (x9 : FVec Ideal S2048x5 .f32) (x10 : FVec Ideal S5 .f32) : FVec Ideal S4096x5 .f32 :=
  addf (Host.dotGeneral dot_S4096x2048_S2048x5_S4096x5_1_0_0_1_n_n none h x9) (broadcastInDim S4096x5 ![0, 1] bcast_S1x5_S4096x5_0_1 (broadcastInDim S1x5 ![1] bcast_S5_S1x5_1 x10))

/-- The labels, a negative one counted from the end. -/
def wrapY (y : IVec S4096 32) : IVec S4096x1x1 32 :=
  shapeCast _ (select (cmpi .slt (broadcastInDim S4096x1 ![0] bcast_S4096_S4096x1_0 y) (broadcastInDim S4096x1 ![] bcast_S_S4096x1 (constantI S_ 32 0#32))) (addi (broadcastInDim S4096x1 ![0] bcast_S4096_S4096x1_0 y) (broadcastInDim S4096x1 ![] bcast_S_S4096x1 (constantI S_ 32 5#32))) (broadcastInDim S4096x1 ![0] bcast_S4096_S4096x1_0 y)) shapeCasts_S4096x1_S4096x1x1

/-- Which labels name one of the five lanes. -/
def inY (y : IVec S4096 32) : IVec S4096x1 1 :=
  Host.reduce IntOp.andi (andi (cmpi .sge (wrapY y) (broadcastInDim S4096x1x1 ![] bcast_S_S4096x1x1 (constantI S_ 32 0#32))) (cmpi .sle (wrapY y) (broadcastInDim S4096x1x1 ![0, 1, 2] bcast_S1x1x1_S4096x1x1_0_1_2 (broadcastInDim S1x1x1 ![2] bcast_S1_S1x1x1_2 (constantI S1 32 4#32))))) (constantI S_ 1 1#1) reducesTo_S4096x1x1_S4096x1_d2 h_S_

/-- The predictions, each row lowered by its largest. -/
def lowered (p : FVec Ideal S4096x5 .f32) : FVec Ideal S4096x5 .f32 :=
  subf p (broadcastInDim S4096x5 ![0, 1] bcast_S4096x1_S4096x5_0_1 (broadcastInDim S4096x1 ![0] bcast_S4096_S4096x1_0 (maximumf (broadcastInDim S4096 ![] bcast_S_S4096 (constant S_ .f32 0xFF800000#32)) (Host.reduce FloatOps.maximumf p (constant S_ .f32 0xFF800000#32) reducesTo_S4096x5_S4096_d1 h_S_))))

/-- The logarithms of the predicted probabilities. -/
def logp (p : FVec Ideal S4096x5 .f32) : FVec Ideal S4096x5 .f32 :=
  subf (lowered p) (broadcastInDim S4096x5 ![0, 1] bcast_S4096x1_S4096x5_0_1 (Host.log (broadcastInDim S4096x1 ![0] bcast_S4096_S4096x1_0 (Host.reduceAdd (Host.exp (lowered p)) (constant S_ .f32 0x00000000#32) reducesTo_S4096x5_S4096_d1 h_S_))))

/-- The mean cross-entropy. -/
def meanLoss (p : FVec Ideal S4096x5 .f32) (y : IVec S4096 32) : FVec Ideal S_ .f32 :=
  Host.divf (Host.reduceAdd (Host.negf (shapeCast _ (select (inY y) (Host.gather gather_S4096x5_S4096x1x1_S4096x1_n_1_0_0_1_2_11 (logp p) (wrapY y)) (broadcastInDim S4096x1 ![] bcast_S_S4096x1 (constant S_ .f32 0x7FC00000#32))) shapeCasts_S4096x1_S4096)) (constant S_ .f32 0x00000000#32) reducesTo_S4096_S_d0 h_S_) (constant S_ .f32 0x45800000#32)

/-! ### Words in a range -/

/-- A word below a bound passes the two comparisons of a range check. -/
theorem in_range {w : BitVec 32} {n : ℕ} (hn : n < 2 ^ 31) (h : w.toNat ≤ n) :
    IntOp.andi (IntOp.cmpi .sge w 0#32) (IntOp.cmpi .sle w (BitVec.ofNat 32 n)) = 1#1 := by
  have e : (BitVec.ofNat 32 n).toNat = n := by rw [BitVec.toNat_ofNat]; omega
  rw [WordCmp.cmpi_sge_zero, WordCmp.cmpi_sle_of_lt (by omega) (by omega), e,
    decide_eq_true (by omega : w.toNat < 2 ^ (32 - 1)), decide_eq_true h]
  rfl

/-- Reading a word below a bound as a signed number and clamping it to the bound changes nothing. -/
theorem clamp_eq {w : BitVec 32} {n : ℕ} (hn : n < 2 ^ 31) (h : w.toNat ≤ n) : min w.toInt.toNat n = w.toNat := by
  rw [WordCmp.toInt_eq_toNat_of_lt_half (by omega)]
  omega

/-! ### The look-up -/

/-- The gather of table rows, read at an index: the row number read signed and clamped into the table. -/
theorem gather_rows (x : FVec Ideal S101x2048 .f32) (I : IVec S4096x3x1 32) (g : Fin 4096) (p : Fin 3) (k : Fin 2048) :
    Host.gather gather_S101x2048_S4096x3x1_S4096x3x2048_2_0_n_n_0_2_12048 x I (ix3 g p k)
      = x (ix2 ⟨min (I (ix3 g p 0)).toInt.toNat 100, by omega⟩ k) := by
  unfold Host.gather
  refine congrArg x ?_
  funext a
  refine Fin.ext ?_
  match a with
  | ⟨0, _⟩ =>
    show GatherDims.start _ (ix3 g p k) I 0 + GatherDims.batchCoord _ (ix3 g p k) 0 + GatherDims.offCoord _ (ix3 g p k) 0 = _
    rw [GatherDims.batchCoord_eq_zero _ _ _ (by decide), GatherDims.offCoord_eq_zero _ _ _ (by decide)]
    unfold GatherDims.start
    rw [dif_pos (by decide)]
    have hsi : gather_S101x2048_S4096x3x1_S4096x3x2048_2_0_n_n_0_2_12048.siIdx (ix3 g p k) ⟨0, by decide⟩ = ix3 g p 0 := by
      funext b
      refine Fin.ext ?_
      match b with
      | ⟨0, _⟩ => rfl
      | ⟨1, _⟩ => rfl
      | ⟨2, _⟩ => rfl
    show min (I (gather_S101x2048_S4096x3x1_S4096x3x2048_2_0_n_n_0_2_12048.siIdx (ix3 g p k) ⟨0, _⟩)).toInt.toNat 100 + 0 + 0 = _
    rw [hsi]
    rfl
  | ⟨1, _⟩ =>
    show GatherDims.start _ (ix3 g p k) I 1 + GatherDims.batchCoord _ (ix3 g p k) 1 + GatherDims.offCoord _ (ix3 g p k) 1 = k.val
    rw [GatherDims.batchCoord_eq_zero _ _ _ (by decide)]
    unfold GatherDims.start
    rw [dif_neg (by decide)]
    show 0 + 0 + k.val = k.val
    omega

/-- A row number in the table passes unchanged. -/
theorem wrapT_apply (x11 : IVec S4096x3 32) (hT : ∀ g p, (x11 (ix2 g p)).toNat < 101) (g : Fin 4096) (p : Fin 3) (z : Fin 1) :
    wrapT x11 (ix3 g p z) = x11 (ix2 g p) := by
  unfold wrapT
  pointwise
  have h := hT g p
  exact Routing.wrap_of_lt _ _ (by omega)

/-- Every row number is found in the table. -/
theorem inT_apply (x11 : IVec S4096x3 32) (hT : ∀ g p, (x11 (ix2 g p)).toNat < 101) (i : S4096x3.Idx) : inT x11 i = 1#1 := by
  unfold inT
  refine Host.reduce_andi_one _ _ _ _ _ rfl fun j => ?_
  rw [eq_ix3 j]
  generalize j 0 = g
  generalize j 1 = p
  generalize j 2 = z
  pointwise [wrapT_apply x11 hT]
  have h := hT g p
  exact in_range (by omega) (by omega)

/-- The looked-up rows. -/
theorem takeRows_apply (x0 : FVec Ideal S101x2048 .f32) (x11 : IVec S4096x3 32) (hT : ∀ g p, (x11 (ix2 g p)).toNat < 101)
    (g : Fin 4096) (p : Fin 3) (k : Fin 2048) :
    takeRows x0 x11 (ix3 g p k) = x0 (ix2 ⟨(x11 (ix2 g p)).toNat, hT g p⟩ k) := by
  unfold takeRows
  pointwise [inT_apply x11 hT]
  rw [gather_rows]
  have h := hT g p
  refine congrArg (fun a => x0 (ix2 a k)) (Fin.ext ?_)
  show min (wrapT x11 (ix3 g p 0)).toInt.toNat 100 = _
  rw [wrapT_apply x11 hT]
  exact clamp_eq (by omega) (by omega)

/-! ### The layers -/

theorem layer0_apply (x0 : FVec Ideal S101x2048 .f32) (x11 : IVec S4096x3 32) (hT : ∀ g p, (x11 (ix2 g p)).toNat < 101)
    (x1 : FVec Ideal S6144x2048 .f32) (x2 : FVec Ideal S2048 .f32) (g : Fin 4096) (j : Fin 2048) :
    layer0 x0 x11 x1 x2 (ix2 g j)
      = act (dense (embedRow (fun a k => x0 (ix2 a k)) fun p => ⟨(x11 (ix2 g p)).toNat, hT g p⟩) (fun k l => x1 (ix2 k l)) fun l => x2 (ix1 l)) j := by
  unfold layer0
  pointwise [takeRows_apply x0 x11 hT]
  rfl

theorem layer_apply (h : FVec Ideal S4096x2048 .f32) (W : FVec Ideal S2048x2048 .f32) (b : FVec Ideal S2048 .f32)
    (g : Fin 4096) (j : Fin 2048) :
    layer h W b (ix2 g j) = act (dense (fun k => h (ix2 g k)) (fun k l => W (ix2 k l)) fun l => b (ix1 l)) j := by
  unfold layer
  pointwise
  rfl

theorem outLayer_apply (h : FVec Ideal S4096x2048 .f32) (x9 : FVec Ideal S2048x5 .f32) (x10 : FVec Ideal S5 .f32)
    (g : Fin 4096) (j : Fin 5) :
    outLayer h x9 x10 (ix2 g j) = dense (fun k => h (ix2 g k)) (fun k l => x9 (ix2 k l)) (fun l => x10 (ix1 l)) j := by
  unfold outLayer
  pointwise
  rfl

/-! ### The loss -/

/-- The gather of one lane per row, read at an index: the lane number read signed and clamped into the row. -/
theorem gather_lane (x : FVec Ideal S4096x5 .f32) (I : IVec S4096x1x1 32) (g : Fin 4096) (z : Fin 1) :
    Host.gather gather_S4096x5_S4096x1x1_S4096x1_n_1_0_0_1_2_11 x I (ix2 g z)
      = x (ix2 g ⟨min (I (ix3 g 0 0)).toInt.toNat 4, by omega⟩) := by
  obtain rfl : z = 0 := Subsingleton.elim _ _
  unfold Host.gather
  refine congrArg x ?_
  funext a
  refine Fin.ext ?_
  match a with
  | ⟨0, _⟩ =>
    show GatherDims.start _ (ix2 g 0) I 0 + GatherDims.batchCoord _ (ix2 g 0) 0 + GatherDims.offCoord _ (ix2 g 0) 0 = g.val
    rw [GatherDims.start_batching _ _ _ _ (by decide), GatherDims.offCoord_eq_zero _ _ _ (by decide)]
    unfold GatherDims.batchCoord
    rw [dif_pos (by decide)]
    show 0 + g.val + 0 = g.val
    omega
  | ⟨1, _⟩ =>
    show GatherDims.start _ (ix2 g 0) I 1 + GatherDims.batchCoord _ (ix2 g 0) 1 + GatherDims.offCoord _ (ix2 g 0) 1 = _
    rw [GatherDims.batchCoord_eq_zero _ _ _ (by decide), GatherDims.offCoord_eq_zero _ _ _ (by decide)]
    unfold GatherDims.start
    rw [dif_pos (by decide)]
    have hsi : gather_S4096x5_S4096x1x1_S4096x1_n_1_0_0_1_2_11.siIdx (ix2 g 0) ⟨0, by decide⟩ = ix3 g 0 0 := by
      funext b
      refine Fin.ext ?_
      match b with
      | ⟨0, _⟩ => rfl
      | ⟨1, _⟩ => rfl
      | ⟨2, _⟩ => rfl
    show min (I (gather_S4096x5_S4096x1x1_S4096x1_n_1_0_0_1_2_11.siIdx (ix2 g 0) ⟨0, _⟩)).toInt.toNat 4 + 0 + 0 = _
    rw [hsi]
    rfl

/-- A label naming a lane passes unchanged. -/
theorem wrapY_apply (y : IVec S4096 32) (hY : ∀ g, (y (ix1 g)).toNat < 5) (g : Fin 4096) (z w : Fin 1) :
    wrapY y (ix3 g z w) = y (ix1 g) := by
  unfold wrapY
  pointwise
  have h := hY g
  exact Routing.wrap_of_lt _ _ (by omega)

/-- Every label names a lane. -/
theorem inY_apply (y : IVec S4096 32) (hY : ∀ g, (y (ix1 g)).toNat < 5) (i : S4096x1.Idx) : inY y i = 1#1 := by
  unfold inY
  refine Host.reduce_andi_one _ _ _ _ _ rfl fun j => ?_
  rw [eq_ix3 j]
  generalize j 0 = g
  generalize j 1 = p
  generalize j 2 = z
  pointwise [wrapY_apply y hY]
  have h := hY g
  exact in_range (by omega) (by omega)

theorem lowered_apply (p : FVec Ideal S4096x5 .f32) (g : Fin 4096) (l : Fin 5) :
    lowered p (ix2 g l) = p (ix2 g l) - rowMax fun l => p (ix2 g l) := by
  unfold lowered
  pointwise
  rw [ofBits_negInf, max_eq_right bot_le]
  rfl

theorem logp_apply (p : FVec Ideal S4096x5 .f32) (g : Fin 4096) (l : Fin 5) :
    logp p (ix2 g l) = p (ix2 g l) - (rowMax fun l => p (ix2 g l)) - Ideal.log (expSum fun l => p (ix2 g l)) := by
  unfold logp
  pointwise [lowered_apply]
  rfl

/-- The mean cross-entropy of predictions that are real numbers. -/
theorem meanLoss_apply (p : FVec Ideal S4096x5 .f32) (hp : ∀ g l, IsReal (p (ix2 g l))) (y : IVec S4096 32)
    (hY : ∀ g, (y (ix1 g)).toNat < 5) :
    meanLoss p y ix0 = (∑ g : Fin 4096, rowLoss (fun l => p (ix2 g l)) ⟨(y (ix1 g)).toNat, hY g⟩) * ((1 / 4096 : ℝ) : EReal) := by
  unfold meanLoss
  pointwise [inY_apply y hY]
  have hc : Ideal.ofBits .f32 0x45800000#32 = ((4096 : ℝ) : EReal) := by
    simp [Ideal.ofBits, Ideal.ieee]
    rw [← EReal.coe_mul]
    norm_num
  rw [hc, Ideal.div_coe (by norm_num)]
  refine congrArg (· * _) (Finset.sum_congr rfl fun g _ => ?_)
  have h := hY g
  rw [gather_lane, logp_apply]
  refine (congrArg (fun a => -(p (ix2 g a) - (rowMax fun l => p (ix2 g l)) - Ideal.log (expSum fun l => p (ix2 g l)))) (Fin.ext ?_)).trans
    (neg_logp (hp g) ⟨(y (ix1 g)).toNat, hY g⟩)
  show min (wrapY y (ix3 g 0 0)).toInt.toNat 4 = _
  rw [wrapY_apply y hY]
  exact clamp_eq (by omega) (by omega)

/-! ### The run -/

/-- The reference's predictions, as its stages. -/
def predictions (m : (ℓ : Loc nD τ sig) → Buf (Elt Ideal) ℓ) (c : Dev nD) : FVec Ideal S4096x5 .f32 :=
  outLayer (layer (layer (layer (layer0 (m ((c.tc : Thread nD τ).loc main_arg0)) (m ((c.tc : Thread nD τ).loc main_arg11))
    (m ((c.tc : Thread nD τ).loc main_arg1)) (m ((c.tc : Thread nD τ).loc main_arg2)))
    (m ((c.tc : Thread nD τ).loc main_arg3)) (m ((c.tc : Thread nD τ).loc main_arg4)))
    (m ((c.tc : Thread nD τ).loc main_arg5)) (m ((c.tc : Thread nD τ).loc main_arg6)))
    (m ((c.tc : Thread nD τ).loc main_arg7)) (m ((c.tc : Thread nD τ).loc main_arg8)))
    (m ((c.tc : Thread nD τ).loc main_arg9)) (m ((c.tc : Thread nD τ).loc main_arg10))

/-- The reference's second result is the mean loss of its predictions. -/
theorem res_eq (m : (ℓ : Loc nD τ sig) → Buf (Elt Ideal) ℓ) (c : Dev nD) :
    Value.res_out1 (F := Ideal) m c = meanLoss (predictions m c) (m ((c.tc : Thread nD τ).loc main_arg12)) := rfl

/-- The reference's prediction of a row. -/
theorem predictions_apply (m : (ℓ : Loc nD τ sig) → Buf (Elt Ideal) ℓ) (c : Dev nD)
    (hT : ∀ g p, ((m ((c.tc : Thread nD τ).loc main_arg11) : IVec S4096x3 32) (ix2 g p)).toNat < 101) (g : Fin 4096) (j : Fin 5) :
    predictions m c (ix2 g j)
      = predRow (fun a k => (m ((c.tc : Thread nD τ).loc main_arg0) : FVec Ideal S101x2048 .f32) (ix2 a k))
          (fun p => ⟨((m ((c.tc : Thread nD τ).loc main_arg11) : IVec S4096x3 32) (ix2 g p)).toNat, hT g p⟩)
          (fun k l => (m ((c.tc : Thread nD τ).loc main_arg1) : FVec Ideal S6144x2048 .f32) (ix2 k l))
          (fun l => (m ((c.tc : Thread nD τ).loc main_arg2) : FVec Ideal S2048 .f32) (ix1 l))
          (fun k l => (m ((c.tc : Thread nD τ).loc main_arg3) : FVec Ideal S2048x2048 .f32) (ix2 k l))
          (fun l => (m ((c.tc : Thread nD τ).loc main_arg4) : FVec Ideal S2048 .f32) (ix1 l))
          (fun k l => (m ((c.tc : Thread nD τ).loc main_arg5) : FVec Ideal S2048x2048 .f32) (ix2 k l))
          (fun l => (m ((c.tc : Thread nD τ).loc main_arg6) : FVec Ideal S2048 .f32) (ix1 l))
          (fun k l => (m ((c.tc : Thread nD τ).loc main_arg7) : FVec Ideal S2048x2048 .f32) (ix2 k l))
          (fun l => (m ((c.tc : Thread nD τ).loc main_arg8) : FVec Ideal S2048 .f32) (ix1 l))
          (fun k l => (m ((c.tc : Thread nD τ).loc main_arg9) : FVec Ideal S2048x5 .f32) (ix2 k l))
          (fun l => (m ((c.tc : Thread nD τ).loc main_arg10) : FVec Ideal S5 .f32) (ix1 l)) j := by
  unfold predictions predRow mlp
  rw [outLayer_apply]
  simp only [layer_apply]
  simp only [layer0_apply _ _ hT]

/-- The reference's predictions as the run states them. -/
theorem run_predictions (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = predictions m c :=
  (Value.run m ρ).mono fun _ h c => (h c).1

end Cert.K01.Ref
-- ==== Proof.Conditions.lean ====
/-
  What the preconditions and the mask say of the arrays they are computed from.
-/
module

public import proofs.«01_k».proof.Defs
public import proofs.«01_k».proof.Proof.Gen.Pre_ids_in_table
public import proofs.«01_k».proof.Proof.Gen.Pre_in_range_and_finite
public import proofs.«01_k».proof.Proof.Gen.On_the_prediction
public import proofs.«01_k».proof.Proof.Spec
public import Idealize.ShloMosaic.Lib.WordCmp

@[expose] public section

noncomputable section

namespace Cert.K01.Cond

open Idealize.ShloMosaic

/-- A word that passes the two comparisons of a range check is below the bound. -/
theorem below_of_check {w : BitVec 32} {n : ℕ} (hn : n < 2 ^ 31)
    (h : IntOp.andi (IntOp.cmpi .sge w 0#32) (IntOp.cmpi .slt w (BitVec.ofNat 32 n)) = 1#1) : w.toNat < n := by
  rw [WordCmp.andi_sge_zero_slt_ofNat hn, WordCmp.ofBool_decide_eq_one_iff] at h
  exact h

/-- The constant a magnitude is compared with is the greatest extended real. -/
theorem ofBits_posInf : Ideal.ofBits .f32 0x7F800000#32 = ⊤ := by
  simp [Ideal.ofBits, Ideal.ieee]

/-- A value whose magnitude is below infinity is a real number. -/
theorem real_of_check {x : EReal} (h : Ideal.cmp .olt (max x (-x)) (Ideal.ofBits .f32 0x7F800000#32) = 1#1) : IsReal x := by
  rw [ofBits_posInf] at h
  have hlt : max x (-x) < ⊤ := (WordCmp.ofBool_decide_eq_one_iff _).1 h
  induction x with
  | bot => simp at hlt
  | top => simp at hlt
  | coe r => exact ⟨r, rfl⟩

/-- An array whose magnitudes are all below infinity holds real numbers. -/
theorem reals_of_check {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    IsReal (x i) :=
  real_of_check (congrFun h i)

section
variable (x0 : FVec Ideal ⟨2, ![101, 2048]⟩ .f32) (x1 : FVec Ideal ⟨2, ![6144, 2048]⟩ .f32) (x2 : FVec Ideal ⟨1, ![2048]⟩ .f32)
  (x3 : FVec Ideal ⟨2, ![2048, 2048]⟩ .f32) (x4 : FVec Ideal ⟨1, ![2048]⟩ .f32)
  (x5 : FVec Ideal ⟨2, ![2048, 2048]⟩ .f32) (x6 : FVec Ideal ⟨1, ![2048]⟩ .f32)
  (x7 : FVec Ideal ⟨2, ![2048, 2048]⟩ .f32) (x8 : FVec Ideal ⟨1, ![2048]⟩ .f32)
  (x9 : FVec Ideal ⟨2, ![2048, 5]⟩ .f32) (x10 : FVec Ideal ⟨1, ![5]⟩ .f32)
  (x11 : IVec ⟨2, ![4096, 3]⟩ 32) (x12 : IVec ⟨1, ![4096]⟩ 32)

/-- Every float argument holds real numbers. -/
structure AllReal : Prop where
  e : ∀ i, IsReal (x0 i)
  w0 : ∀ i, IsReal (x1 i)
  b0 : ∀ i, IsReal (x2 i)
  w1 : ∀ i, IsReal (x3 i)
  b1 : ∀ i, IsReal (x4 i)
  w2 : ∀ i, IsReal (x5 i)
  b2 : ∀ i, IsReal (x6 i)
  w3 : ∀ i, IsReal (x7 i)
  b3 : ∀ i, IsReal (x8 i)
  w4 : ∀ i, IsReal (x9 i)
  b4 : ∀ i, IsReal (x10 i)

/-- The first precondition: every word id names a row of the table. -/
theorem ids_of_table [Cert.Pre_ids_in_table.Facts]
    (h : Cert.Pre_ids_in_table.fn (F := Ideal) x0 x1 x2 x3 x4 x5 x6 x7 x8 x9 x10 x11 x12 = fun _ => 1#1) (g : Fin 4096) (p : Fin 3) :
    (x11 (ix2 g p)).toNat < 101 :=
  below_of_check (by decide) (congrFun h (ix2 g p))

variable [Cert.Pre_in_range_and_finite.Facts]
  {x0 x1 x2 x3 x4 x5 x6 x7 x8 x9 x10 x11 x12}

/-- The second precondition's first part: every word id names a row of the table. -/
theorem ids_of_range
    (h : (Cert.Pre_in_range_and_finite.fn (F := Ideal) x0 x1 x2 x3 x4 x5 x6 x7 x8 x9 x10 x11 x12).1 = fun _ => 1#1)
    (g : Fin 4096) (p : Fin 3) : (x11 (ix2 g p)).toNat < 101 :=
  below_of_check (by decide) (congrFun h (ix2 g p))

/-- The second precondition's second part: every label names a class. -/
theorem labels_of_range
    (h : (Cert.Pre_in_range_and_finite.fn (F := Ideal) x0 x1 x2 x3 x4 x5 x6 x7 x8 x9 x10 x11 x12).2.1 = fun _ => 1#1)
    (g : Fin 4096) : (x12 (ix1 g)).toNat < 5 :=
  below_of_check (by decide) (congrFun h (ix1 g))

/-- The second precondition's other parts: every float argument holds real numbers. -/
theorem reals_of_range
    (h : let f := Cert.Pre_in_range_and_finite.fn (F := Ideal) x0 x1 x2 x3 x4 x5 x6 x7 x8 x9 x10 x11 x12
      f.2.2.1 = (fun _ => 1#1) ∧ f.2.2.2.1 = (fun _ => 1#1) ∧ f.2.2.2.2.1 = (fun _ => 1#1) ∧ f.2.2.2.2.2.1 = (fun _ => 1#1)
        ∧ f.2.2.2.2.2.2.1 = (fun _ => 1#1) ∧ f.2.2.2.2.2.2.2.1 = (fun _ => 1#1) ∧ f.2.2.2.2.2.2.2.2.1 = (fun _ => 1#1)
        ∧ f.2.2.2.2.2.2.2.2.2.1 = (fun _ => 1#1) ∧ f.2.2.2.2.2.2.2.2.2.2.1 = (fun _ => 1#1)
        ∧ f.2.2.2.2.2.2.2.2.2.2.2.1 = (fun _ => 1#1) ∧ f.2.2.2.2.2.2.2.2.2.2.2.2 = fun _ => 1#1) :
    AllReal x0 x1 x2 x3 x4 x5 x6 x7 x8 x9 x10 :=
  ⟨reals_of_check _ _ h.1, reals_of_check _ _ h.2.1, reals_of_check _ _ h.2.2.1, reals_of_check _ _ h.2.2.2.1,
    reals_of_check _ _ h.2.2.2.2.1, reals_of_check _ _ h.2.2.2.2.2.1, reals_of_check _ _ h.2.2.2.2.2.2.1,
    reals_of_check _ _ h.2.2.2.2.2.2.2.1, reals_of_check _ _ h.2.2.2.2.2.2.2.2.1, reals_of_check _ _ h.2.2.2.2.2.2.2.2.2.1,
    reals_of_check _ _ h.2.2.2.2.2.2.2.2.2.2⟩

/-- The mask of the first claim selects nothing of the loss. -/
theorem mask_loss [Cert.On_the_prediction.Facts] (i : (⟨0, ![]⟩ : Shape).Idx)
    (h : (Cert.On_the_prediction.fn (F := Ideal) x0 x1 x2 x3 x4 x5 x6 x7 x8 x9 x10 x11 x12).2 i = 1#1) : False := by
  revert h
  show IntOp.cmpi .ne _ _ = 1#1 → False
  simp [IntOp.cmpi]

end

end Cert.K01.Cond
-- ==== Proof.Agree.lean ====
/-
  The kernel's two results and the reference's, side by side.
-/
module

public import proofs.«01_k».proof.Proof.Kernel
public import proofs.«01_k».proof.Proof.Reference
public import proofs.«01_k».proof.Proof.Conditions

@[expose] public section

set_option maxRecDepth 16384

noncomputable section

namespace Cert.K01

open Idealize.ShloMosaic Idealize.ShloMosaic.TcCoe Idealize.SL.Sem

/-- The prediction of row `g`, of twelve arrays. -/
def rowArr (x0 : FVec Ideal ⟨2, ![101, 2048]⟩ .f32) (x1 : FVec Ideal ⟨2, ![6144, 2048]⟩ .f32) (x2 : FVec Ideal ⟨1, ![2048]⟩ .f32)
    (x3 : FVec Ideal ⟨2, ![2048, 2048]⟩ .f32) (x4 : FVec Ideal ⟨1, ![2048]⟩ .f32)
    (x5 : FVec Ideal ⟨2, ![2048, 2048]⟩ .f32) (x6 : FVec Ideal ⟨1, ![2048]⟩ .f32)
    (x7 : FVec Ideal ⟨2, ![2048, 2048]⟩ .f32) (x8 : FVec Ideal ⟨1, ![2048]⟩ .f32)
    (x9 : FVec Ideal ⟨2, ![2048, 5]⟩ .f32) (x10 : FVec Ideal ⟨1, ![5]⟩ .f32)
    (x11 : IVec ⟨2, ![4096, 3]⟩ 32) (hT : ∀ g p, (x11 (ix2 g p)).toNat < 101) (g : Fin 4096) : Fin 5 → EReal :=
  predRow (fun a k => x0 (ix2 a k)) (fun p => ⟨(x11 (ix2 g p)).toNat, hT g p⟩) (fun k l => x1 (ix2 k l)) (fun l => x2 (ix1 l))
    (fun k l => x3 (ix2 k l)) (fun l => x4 (ix1 l)) (fun k l => x5 (ix2 k l)) (fun l => x6 (ix1 l))
    (fun k l => x7 (ix2 k l)) (fun l => x8 (ix1 l)) (fun k l => x9 (ix2 k l)) (fun l => x10 (ix1 l))

/-- The predictions of real arrays are real. -/
theorem rowArr_real {x0 : FVec Ideal ⟨2, ![101, 2048]⟩ .f32} {x1 : FVec Ideal ⟨2, ![6144, 2048]⟩ .f32} {x2 x4 x6 x8 : FVec Ideal ⟨1, ![2048]⟩ .f32}
    {x3 x5 x7 : FVec Ideal ⟨2, ![2048, 2048]⟩ .f32} {x9 : FVec Ideal ⟨2, ![2048, 5]⟩ .f32} {x10 : FVec Ideal ⟨1, ![5]⟩ .f32}
    {x11 : IVec ⟨2, ![4096, 3]⟩ 32} (hT : ∀ g p, (x11 (ix2 g p)).toNat < 101)
    (h : Cond.AllReal x0 x1 x2 x3 x4 x5 x6 x7 x8 x9 x10) (g : Fin 4096) (j : Fin 5) :
    IsReal (rowArr x0 x1 x2 x3 x4 x5 x6 x7 x8 x9 x10 x11 hT g j) :=
  IsReal.predRow (fun _ _ => h.e _) _ (fun _ _ => h.w0 _) (fun _ => h.b0 _) (fun _ _ => h.w1 _) (fun _ => h.b1 _) (fun _ _ => h.w2 _)
    (fun _ => h.b2 _) (fun _ _ => h.w3 _) (fun _ => h.b3 _) (fun _ _ => h.w4 _) (fun _ => h.b4 _) j

/-- Equal arrays have equal predictions. -/
theorem rowArr_congr {x0 y0 : FVec Ideal ⟨2, ![101, 2048]⟩ .f32} {x1 y1 : FVec Ideal ⟨2, ![6144, 2048]⟩ .f32}
    {x2 y2 : FVec Ideal ⟨1, ![2048]⟩ .f32} {x3 y3 : FVec Ideal ⟨2, ![2048, 2048]⟩ .f32}
    {x4 y4 : FVec Ideal ⟨1, ![2048]⟩ .f32} {x5 y5 : FVec Ideal ⟨2, ![2048, 2048]⟩ .f32}
    {x6 y6 : FVec Ideal ⟨1, ![2048]⟩ .f32} {x7 y7 : FVec Ideal ⟨2, ![2048, 2048]⟩ .f32}
    {x8 y8 : FVec Ideal ⟨1, ![2048]⟩ .f32} {x9 y9 : FVec Ideal ⟨2, ![2048, 5]⟩ .f32}
    {x10 y10 : FVec Ideal ⟨1, ![5]⟩ .f32} {x11 y11 : IVec ⟨2, ![4096, 3]⟩ 32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11)
    (hx : ∀ g p, (x11 (ix2 g p)).toNat < 101) (hy : ∀ g p, (y11 (ix2 g p)).toNat < 101) (g : Fin 4096) (j : Fin 5) :
    rowArr x0 x1 x2 x3 x4 x5 x6 x7 x8 x9 x10 x11 hx g j
      = rowArr y0 y1 y2 y3 y4 y5 y6 y7 y8 y9 y10 y11 hy g j := by
  subst h0 h1 h2 h3 h4 h5 h6 h7 h8 h9 h10 h11
  rfl

variable (m : (ℓ : Loc Cert.KernelIdeal.nD Cert.KernelIdeal.τ Cert.KernelIdeal.sig) → Buf (Elt Ideal) ℓ)
  (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' arguments hold the same. -/
def SameArgs : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- An argument array of the kernel's memory. -/
abbrev karg (r : Ref Cert.KernelIdeal.sig .tc) := m ((c.tc : Thread Cert.KernelIdeal.nD Cert.KernelIdeal.τ).loc r)

/-- An argument array of the reference's memory. -/
abbrev rarg (r : Ref Cert.ReferenceIdeal.sig .tc) := m' ((c.tc : Thread Cert.ReferenceIdeal.nD Cert.ReferenceIdeal.τ).loc r)

variable {m m' c}
variable (hA : SameArgs m m' c)
  (hT : ∀ g p, ((karg m c Cert.KernelIdeal.main_arg11 : IVec ⟨2, ![4096, 3]⟩ 32) (ix2 g p)).toNat < 101)

omit hA in
/-- The kernel's row is the row of its argument arrays. -/
theorem rowOf_eq (i : Fin 4096) : rowOf m c hT i = rowArr (karg m c Cert.KernelIdeal.main_arg0) (karg m c Cert.KernelIdeal.main_arg1) (karg m c Cert.KernelIdeal.main_arg2) (karg m c Cert.KernelIdeal.main_arg3) (karg m c Cert.KernelIdeal.main_arg4) (karg m c Cert.KernelIdeal.main_arg5) (karg m c Cert.KernelIdeal.main_arg6) (karg m c Cert.KernelIdeal.main_arg7) (karg m c Cert.KernelIdeal.main_arg8) (karg m c Cert.KernelIdeal.main_arg9) (karg m c Cert.KernelIdeal.main_arg10) (karg m c Cert.KernelIdeal.main_arg11) hT i := rfl

omit hA hT in
/-- The reference's predictions are the rows of its argument arrays. -/
theorem predictions_arr (hT' : ∀ g p, ((rarg m' c Cert.ReferenceIdeal.main_arg11 : IVec ⟨2, ![4096, 3]⟩ 32) (ix2 g p)).toNat < 101)
    (i : Fin 4096) (j : Fin 5) : Ref.predictions m' c (ix2 i j) = rowArr (rarg m' c Cert.ReferenceIdeal.main_arg0) (rarg m' c Cert.ReferenceIdeal.main_arg1) (rarg m' c Cert.ReferenceIdeal.main_arg2) (rarg m' c Cert.ReferenceIdeal.main_arg3) (rarg m' c Cert.ReferenceIdeal.main_arg4) (rarg m' c Cert.ReferenceIdeal.main_arg5) (rarg m' c Cert.ReferenceIdeal.main_arg6) (rarg m' c Cert.ReferenceIdeal.main_arg7) (rarg m' c Cert.ReferenceIdeal.main_arg8) (rarg m' c Cert.ReferenceIdeal.main_arg9) (rarg m' c Cert.ReferenceIdeal.main_arg10) (rarg m' c Cert.ReferenceIdeal.main_arg11) hT' i j :=
  Ref.predictions_apply m' c hT' i j

include hA in
/-- The reference's predictions are the kernel's. -/
theorem predictions_eq (i : Fin 4096) (j : Fin 5) : Ref.predictions m' c (ix2 i j) = rowOf m c hT i j := by
  obtain ⟨h0, h1, h2, h3, h4, h5, h6, h7, h8, h9, h10, h11, -⟩ := hA
  have hT' : ∀ g p, ((rarg m' c Cert.ReferenceIdeal.main_arg11 : IVec ⟨2, ![4096, 3]⟩ 32) (ix2 g p)).toNat < 101 := fun i p =>
    (congrArg (fun x : IVec ⟨2, ![4096, 3]⟩ 32 => (x (ix2 i p)).toNat) h11).trans_lt (hT i p)
  rw [rowOf_eq hT, predictions_arr hT']
  exact rowArr_congr h0 h1 h2 h3 h4 h5 h6 h7 h8 h9 h10 h11 hT' hT i j

include hA hT in
/-- For ids below 101 the kernel's first result is the reference's predictions. -/
theorem first_eq : (Cert.KernelIdeal.Gen.W7 m g c (Proc.devRef .tc Cert.KernelIdeal.main_v0_0) : FVec Ideal ⟨2, ![4096, 5]⟩ .f32)
    = Ref.predictions m' c := by
  funext i
  rw [eq_ix2 i]
  exact (result_pred m g c hT (i 0) (i 1)).trans (predictions_eq hA hT (i 0) (i 1)).symm

include hA hT in
/-- For ids below 101, labels below 5 and real arguments, the kernel's second result is the reference's. -/
theorem second_eq
    (hY : ∀ g, ((karg m c Cert.KernelIdeal.main_arg12 : IVec ⟨1, ![4096]⟩ 32) (ix1 g)).toNat < 5)
    (hR : Cond.AllReal (karg m c Cert.KernelIdeal.main_arg0) (karg m c Cert.KernelIdeal.main_arg1) (karg m c Cert.KernelIdeal.main_arg2)
      (karg m c Cert.KernelIdeal.main_arg3) (karg m c Cert.KernelIdeal.main_arg4) (karg m c Cert.KernelIdeal.main_arg5)
      (karg m c Cert.KernelIdeal.main_arg6) (karg m c Cert.KernelIdeal.main_arg7) (karg m c Cert.KernelIdeal.main_arg8)
      (karg m c Cert.KernelIdeal.main_arg9) (karg m c Cert.KernelIdeal.main_arg10)) :
    (Cert.KernelIdeal.Gen.W7 m g c (Proc.devRef .tc Cert.KernelIdeal.main_v0_1) : FVec Ideal ⟨0, ![]⟩ .f32)
      = Cert.ReferenceIdeal.Value.res_main_v32 m' c := by
  have hr : ∀ i l, IsReal (rowOf m c hT i l) := rowArr_real hT hR
  have hp : ∀ i l, IsReal (Ref.predictions m' c (ix2 i l)) := fun i l => by
    rw [predictions_eq hA hT i l]
    exact hr i l
  have h12 : m' ((c.tc : Thread Cert.ReferenceIdeal.nD Cert.ReferenceIdeal.τ).loc Cert.ReferenceIdeal.main_arg12) = karg m c Cert.KernelIdeal.main_arg12 :=
    hA.2.2.2.2.2.2.2.2.2.2.2.2
  funext i
  obtain rfl : i = ix0 := funext fun d => d.elim0
  refine (result_loss m g c hT hr hY).trans ?_
  have e := Ref.meanLoss_apply (Ref.predictions m' c) hp (karg m c Cert.KernelIdeal.main_arg12) hY
  have er : (fun i => rowOf m c hT i) = fun i l => Ref.predictions m' c (ix2 i l) :=
    funext fun i => funext fun l => (predictions_eq hA hT i l).symm
  refine Eq.trans ?_ (e.symm.trans ?_)
  · exact congrArg (fun q : Fin 4096 → Fin 5 → EReal => (∑ g, rowLoss (q g) ⟨_, hY g⟩) * ((1 / 4096 : ℝ) : EReal)) er
  · exact ((congrFun (Ref.res_eq m' c) ix0).trans (congrArg (fun y => Ref.meanLoss (Ref.predictions m' c) y ix0) h12)).symm

end Cert.K01
-- ==== Proof.lean ====
/- The proof of the claims: the three programs run to the end with their arguments unchanged and no semaphore held, the
   named constant is the kernel's mask, and the kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ids_in_table
public import proofs.«01_k».proof.Proof.Gen.Pre_in_range_and_finite
public import proofs.«01_k».proof.Proof.Gen.On_the_prediction
public import proofs.«01_k».proof.Proof.KernelRun
public import proofs.«01_k».proof.Proof.Agree
public import Idealize.ShloMosaic.Adequacy
public import Idealize.ShloMosaic.Init

@[expose] public section

noncomputable section

set_option maxRecDepth 16384

namespace Cert.Proof

open Idealize.ShloMosaic Idealize.ShloMosaic.TcCoe Idealize.SL.Sem Cert.K01

instance : Cert.Kernel.Facts := Cert.Kernel.Gen.facts
instance : Cert.KernelIdeal.Facts := Cert.KernelIdeal.Gen.facts
instance : Cert.ReferenceIdeal.Facts := Cert.ReferenceIdeal.Gen.facts
instance : Cert.Pre_ids_in_table.Facts := Cert.Pre_ids_in_table.Gen.facts
instance : Cert.Pre_in_range_and_finite.Facts := Cert.Pre_in_range_and_finite.Gen.facts
instance : Cert.On_the_prediction.Facts := Cert.On_the_prediction.Gen.facts

/-- The reference runs to the end, its arguments unchanged and no semaphore held. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0) :=
  (θ_run (Cert.ReferenceIdeal.defs (F := Ideal)) _ _).mono (fun r h =>
    ⟨fun c => (h c).2.2, Idealize.ShloMosaic.sem_eq_zero_of_no_sems (by decide) r.2⟩) (Cert.ReferenceIdeal.Value.run m ρ)

/-- The kernel runs to the end, its results what the chain of its launches leaves and its arguments unchanged. -/
theorem kernel_ends (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v0_0) = Cert.KernelIdeal.Gen.W7 m g c (Proc.devRef .tc Cert.KernelIdeal.main_v0_0)
        ∧ r.2.mem ((c.tc : Thread Cert.KernelIdeal.nD Cert.KernelIdeal.τ).loc Cert.KernelIdeal.main_v0_1) = Cert.KernelIdeal.Gen.W7 m g c (Proc.devRef .tc Cert.KernelIdeal.main_v0_1)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (kernel_run m g).mono fun r hr c => by
    have h := hr.1
    exact ⟨h c _ (Cert.KernelIdeal.Gen.mem_uc Cert.KernelIdeal.main_v0_0 (by decide)),
    h c _ (Cert.KernelIdeal.Gen.mem_uc Cert.KernelIdeal.main_v0_1 (by decide)),
    (h c _ (Cert.KernelIdeal.Gen.mem_uc Cert.KernelIdeal.main_arg0 (by decide))).trans (Cert.KernelIdeal.Gen.W7_main_arg0 m g c),
    (h c _ (Cert.KernelIdeal.Gen.mem_uc Cert.KernelIdeal.main_arg1 (by decide))).trans (Cert.KernelIdeal.Gen.W7_main_arg1 m g c),
    (h c _ (Cert.KernelIdeal.Gen.mem_uc Cert.KernelIdeal.main_arg2 (by decide))).trans (Cert.KernelIdeal.Gen.W7_main_arg2 m g c),
    (h c _ (Cert.KernelIdeal.Gen.mem_uc Cert.KernelIdeal.main_arg3 (by decide))).trans (Cert.KernelIdeal.Gen.W7_main_arg3 m g c),
    (h c _ (Cert.KernelIdeal.Gen.mem_uc Cert.KernelIdeal.main_arg4 (by decide))).trans (Cert.KernelIdeal.Gen.W7_main_arg4 m g c),
    (h c _ (Cert.KernelIdeal.Gen.mem_uc Cert.KernelIdeal.main_arg5 (by decide))).trans (Cert.KernelIdeal.Gen.W7_main_arg5 m g c),
    (h c _ (Cert.KernelIdeal.Gen.mem_uc Cert.KernelIdeal.main_arg6 (by decide))).trans (Cert.KernelIdeal.Gen.W7_main_arg6 m g c),
    (h c _ (Cert.KernelIdeal.Gen.mem_uc Cert.KernelIdeal.main_arg7 (by decide))).trans (Cert.KernelIdeal.Gen.W7_main_arg7 m g c),
    (h c _ (Cert.KernelIdeal.Gen.mem_uc Cert.KernelIdeal.main_arg8 (by decide))).trans (Cert.KernelIdeal.Gen.W7_main_arg8 m g c),
    (h c _ (Cert.KernelIdeal.Gen.mem_uc Cert.KernelIdeal.main_arg9 (by decide))).trans (Cert.KernelIdeal.Gen.W7_main_arg9 m g c),
    (h c _ (Cert.KernelIdeal.Gen.mem_uc Cert.KernelIdeal.main_arg10 (by decide))).trans (Cert.KernelIdeal.Gen.W7_main_arg10 m g c),
    (h c _ (Cert.KernelIdeal.Gen.mem_uc Cert.KernelIdeal.main_arg11 (by decide))).trans (Cert.KernelIdeal.Gen.W7_main_arg11 m g c),
    (h c _ (Cert.KernelIdeal.Gen.mem_uc Cert.KernelIdeal.main_arg12 (by decide))).trans (Cert.KernelIdeal.Gen.W7_main_arg12 m g c)⟩

/-- For word ids in the table, the kernel's predictions are the reference's. -/
theorem predictions_agree : Cert.algebraic_KernelIdeal_ReferenceIdeal_on_the_prediction_pre_ids_in_table := by
  intro m g m' g' hpre hA
  have hT : ∀ c : Dev Cert.KernelIdeal.nD, ∀ i p,
      ((karg m c Cert.KernelIdeal.main_arg11 : IVec ⟨2, ![4096, 3]⟩ 32) (ix2 i p)).toNat < 101 := fun c =>
    Cond.ids_of_table _ _ _ _ _ _ _ _ _ _ _ _ _ (hpre c)
  refine ⟨fun c => Cert.KernelIdeal.Gen.W7 m g c (Proc.devRef .tc Cert.KernelIdeal.main_v0_0),
    fun c => Cert.KernelIdeal.Gen.W7 m g c (Proc.devRef .tc Cert.KernelIdeal.main_v0_1), ?_, ?_⟩
  · exact (kernel_ends m g).mono fun r h c =>
      ⟨fun i _ => congrFun (h c).1 i, fun i _ => congrFun (h c).2.1 i, (h c).2.2⟩
  · refine (Cert.ReferenceIdeal.Value.run m' g').mono fun r h c => ⟨fun i _ => ?_, fun i hi => ?_, (h c).2.2⟩
    · exact congrFun ((h c).1.trans (first_eq g (hA c) (hT c)).symm) i
    · exact (Cond.mask_loss i hi).elim

/-- For word ids and labels in range and finite arrays, the kernel's two results are the reference's. -/
theorem results_agree : Cert.algebraic_KernelIdeal_ReferenceIdeal_pre_in_range_and_finite := by
  intro m g m' g' hpre hA
  have hT : ∀ c : Dev Cert.KernelIdeal.nD, ∀ i p,
      ((karg m c Cert.KernelIdeal.main_arg11 : IVec ⟨2, ![4096, 3]⟩ 32) (ix2 i p)).toNat < 101 := fun c =>
    Cond.ids_of_range (hpre c).1
  refine ⟨fun c => Cert.KernelIdeal.Gen.W7 m g c (Proc.devRef .tc Cert.KernelIdeal.main_v0_0),
    fun c => Cert.KernelIdeal.Gen.W7 m g c (Proc.devRef .tc Cert.KernelIdeal.main_v0_1), kernel_ends m g, ?_⟩
  refine (Cert.ReferenceIdeal.Value.run m' g').mono fun r h c => ⟨?_, ?_, (h c).2.2⟩
  · exact (h c).1.trans (first_eq g (hA c) (hT c)).symm
  · exact (h c).2.1.trans (second_eq g (hA c) (hT c) (Cond.labels_of_range (hpre c).2.1) (Cond.reals_of_range (hpre c).2.2)).symm

/-- All the claims. -/
theorem claim : Cert.Claim :=
  ⟨Cert.Kernel.Gen.facts, Cert.KernelIdeal.Gen.facts, Cert.ReferenceIdeal.Gen.facts, Cert.Pre_ids_in_table.Gen.facts,
    Cert.Pre_in_range_and_finite.Gen.facts, Cert.On_the_prediction.Gen.facts,
    fun m ρ _ => Cert.Kernel.Gen.frame m ρ, fun m ρ _ => Cert.KernelIdeal.Gen.frame m ρ,
    fun m ρ _ => Cert.KernelIdeal.Gen.frame m ρ, fun m ρ _ => Cert.KernelIdeal.Gen.frame m ρ,
    fun m ρ _ => frame_reference m ρ, fun m ρ _ => frame_reference m ρ, fun m ρ _ => frame_reference m ρ,
    IdealRules.named_const.statement Cert.KernelIdeal.κ "mask" .f32 0xF149F2CA#32 ⊥ rfl,
    predictions_agree, results_agree⟩

end Cert.Proof

end
